-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![4096, 4096]⟩ ⟨2, ![8192, 4096]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S8192x4096 : Shape := ⟨2, ![8192, 4096]⟩
abbrev S1x4096 : Shape := ⟨2, ![1, 4096]⟩
abbrev S4096x4096 : Shape := ⟨2, ![4096, 4096]⟩
abbrev S2x128x4096 : Shape := ⟨3, ![2, 128, 4096]⟩
abbrev S32 : Shape := ⟨1, ![32]⟩
abbrev S2 : Shape := ⟨1, ![2]⟩
abbrev S_ : Shape := ⟨0, ![]⟩
abbrev S1 : Shape := ⟨1, ![1]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩

abbrev nBuf : Space → Nat
  | .hbm => 5
  | .vmem => 4
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S4096x4096, .f32⟩
  | .local _ .vmem, ⟨0, _⟩ => ⟨S1x4096, .f32⟩
  | .local _ .vmem, ⟨1, _⟩ => ⟨S2x128x4096, .f32⟩
  | .local _ .vmem, ⟨2, _⟩ => ⟨S2x128x4096, .f32⟩
  | .local _ .vmem, ⟨3, _⟩ => ⟨S2x128x4096, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_9 : BitVec 32) : Fin 2 → Nat :=
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c4096_i32 : BitVec 32 := 4096#32
  let v18 : BitVec 32 := Scalar.muli v17 c4096_i32
  let v19 : BitVec 32 := Scalar.addi v18 c0_i32_9
  let c0_i32_18 : BitVec 32 := 0#32
  ![v19.toNat, 0]
def k0_dev2 (d0 : Dev nD) : Nat :=
  let c0_i32_13 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_12 : BitVec 32 := 8#32
  let v20 : BitVec 32 := Scalar.muli v9 c8_i32_12
  let v21 : BitVec 32 := Scalar.addi c0_i32_13 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v22 : BitVec 32 := Scalar.muli v5 c4_i32_14
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v24 : BitVec 32 := Scalar.muli v8 c1_i32_15
  let v25 : BitVec 32 := Scalar.addi v23 v24
  v25.toNat
def k0_dev3 (d0 : Dev nD) : Nat :=
  let c0_i32_22 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_21 : BitVec 32 := 8#32
  let v33 : BitVec 32 := Scalar.muli v9 c8_i32_21
  let v34 : BitVec 32 := Scalar.addi c0_i32_22 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v35 : BitVec 32 := Scalar.muli v5 c4_i32_23
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v37 : BitVec 32 := Scalar.muli v8 c1_i32_24
  let v38 : BitVec 32 := Scalar.addi v36 v37
  v38.toNat
def k0_dev4 (d0 : Dev nD) : Nat :=
  let c0_i32_31 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30 : BitVec 32 := 8#32
  let v46 : BitVec 32 := Scalar.muli v9 c8_i32_30
  let v47 : BitVec 32 := Scalar.addi c0_i32_31 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v48 : BitVec 32 := Scalar.muli v5 c4_i32_32
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v50 : BitVec 32 := Scalar.muli v8 c1_i32_33
  let v51 : BitVec 32 := Scalar.addi v49 v50
  v51.toNat
def k0_dev5 (d0 : Dev nD) : Nat :=
  let c0_i32_39 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_38 : BitVec 32 := 8#32
  let v59 : BitVec 32 := Scalar.muli v9 c8_i32_38
  let v60 : BitVec 32 := Scalar.addi c0_i32_39 v59
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v61 : BitVec 32 := Scalar.muli v5 c4_i32_40
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v63 : BitVec 32 := Scalar.muli v8 c1_i32_41
  let v64 : BitVec 32 := Scalar.addi v62 v63
  v64.toNat
def k0_dev6 (d0 : Dev nD) : Nat :=
  let c0_i32_48 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_47 : BitVec 32 := 8#32
  let v72 : BitVec 32 := Scalar.muli v9 c8_i32_47
  let v73 : BitVec 32 := Scalar.addi c0_i32_48 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v74 : BitVec 32 := Scalar.muli v5 c4_i32_49
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v76 : BitVec 32 := Scalar.muli v8 c1_i32_50
  let v77 : BitVec 32 := Scalar.addi v75 v76
  v77.toNat
def k0_dev7 (d0 : Dev nD) : Nat :=
  let c0_i32_56 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_55 : BitVec 32 := 8#32
  let v85 : BitVec 32 := Scalar.muli v9 c8_i32_55
  let v86 : BitVec 32 := Scalar.addi c0_i32_56 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v87 : BitVec 32 := Scalar.muli v5 c4_i32_57
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v89 : BitVec 32 := Scalar.muli v8 c1_i32_58
  let v90 : BitVec 32 := Scalar.addi v88 v89
  v90.toNat
def k0_dev8 (d0 : Dev nD) : Nat :=
  let c0_i32_64 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_63 : BitVec 32 := 8#32
  let v98 : BitVec 32 := Scalar.muli v9 c8_i32_63
  let v99 : BitVec 32 := Scalar.addi c0_i32_64 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v100 : BitVec 32 := Scalar.muli v5 c4_i32_65
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v102 : BitVec 32 := Scalar.muli v8 c1_i32_66
  let v103 : BitVec 32 := Scalar.addi v101 v102
  v103.toNat
def k0_dev9 (d0 : Dev nD) : Nat :=
  let c0_i32_72 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_71 : BitVec 32 := 8#32
  let v111 : BitVec 32 := Scalar.muli v9 c8_i32_71
  let v112 : BitVec 32 := Scalar.addi c0_i32_72 v111
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v113 : BitVec 32 := Scalar.muli v5 c4_i32_73
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v115 : BitVec 32 := Scalar.muli v8 c1_i32_74
  let v116 : BitVec 32 := Scalar.addi v114 v115
  v116.toNat
def k0_dev10 (d0 : Dev nD) : Nat :=
  let c0_i32_81 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_80 : BitVec 32 := 8#32
  let v124 : BitVec 32 := Scalar.muli v9 c8_i32_80
  let v125 : BitVec 32 := Scalar.addi c0_i32_81 v124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_82 : BitVec 32 := 4#32
  let v126 : BitVec 32 := Scalar.muli v5 c4_i32_82
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v128 : BitVec 32 := Scalar.muli v8 c1_i32_83
  let v129 : BitVec 32 := Scalar.addi v127 v128
  v129.toNat
def k0_dev11 (d0 : Dev nD) : Nat :=
  let c0_i32_89 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_88 : BitVec 32 := 8#32
  let v137 : BitVec 32 := Scalar.muli v9 c8_i32_88
  let v138 : BitVec 32 := Scalar.addi c0_i32_89 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v139 : BitVec 32 := Scalar.muli v5 c4_i32_90
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v141 : BitVec 32 := Scalar.muli v8 c1_i32_91
  let v142 : BitVec 32 := Scalar.addi v140 v141
  v142.toNat
def k0_dev12 (d0 : Dev nD) : Nat :=
  let c0_i32_97 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_96 : BitVec 32 := 8#32
  let v150 : BitVec 32 := Scalar.muli v9 c8_i32_96
  let v151 : BitVec 32 := Scalar.addi c0_i32_97 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v152 : BitVec 32 := Scalar.muli v5 c4_i32_98
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v154 : BitVec 32 := Scalar.muli v8 c1_i32_99
  let v155 : BitVec 32 := Scalar.addi v153 v154
  v155.toNat
def k0_dev13 (d0 : Dev nD) : Nat :=
  let c0_i32_105 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_104 : BitVec 32 := 8#32
  let v163 : BitVec 32 := Scalar.muli v9 c8_i32_104
  let v164 : BitVec 32 := Scalar.addi c0_i32_105 v163
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v165 : BitVec 32 := Scalar.muli v5 c4_i32_106
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v167 : BitVec 32 := Scalar.muli v8 c1_i32_107
  let v168 : BitVec 32 := Scalar.addi v166 v167
  v168.toNat
def k0_dev14 (d0 : Dev nD) : Nat :=
  let c0_i32_113 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_112 : BitVec 32 := 8#32
  let v176 : BitVec 32 := Scalar.muli v9 c8_i32_112
  let v177 : BitVec 32 := Scalar.addi c0_i32_113 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let v178 : BitVec 32 := Scalar.muli v5 c4_i32_114
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v180 : BitVec 32 := Scalar.muli v8 c1_i32_115
  let v181 : BitVec 32 := Scalar.addi v179 v180
  v181.toNat
def k0_dev15 (d0 : Dev nD) : Nat :=
  let c0_i32_121 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_120 : BitVec 32 := 8#32
  let v189 : BitVec 32 := Scalar.muli v9 c8_i32_120
  let v190 : BitVec 32 := Scalar.addi c0_i32_121 v189
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v191 : BitVec 32 := Scalar.muli v5 c4_i32_122
  let v192 : BitVec 32 := Scalar.addi v190 v191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v193 : BitVec 32 := Scalar.muli v8 c1_i32_123
  let v194 : BitVec 32 := Scalar.addi v192 v193
  v194.toNat
def k0_dev16 (d0 : Dev nD) : Nat :=
  let c0_i32_129 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_128 : BitVec 32 := 8#32
  let v202 : BitVec 32 := Scalar.muli v9 c8_i32_128
  let v203 : BitVec 32 := Scalar.addi c0_i32_129 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_130 : BitVec 32 := 4#32
  let v204 : BitVec 32 := Scalar.muli v5 c4_i32_130
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v206 : BitVec 32 := Scalar.muli v8 c1_i32_131
  let v207 : BitVec 32 := Scalar.addi v205 v206
  v207.toNat
def k0_dev17 (d0 : Dev nD) : Nat :=
  let c0_i32_137 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_136 : BitVec 32 := 8#32
  let v215 : BitVec 32 := Scalar.muli v9 c8_i32_136
  let v216 : BitVec 32 := Scalar.addi c0_i32_137 v215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_138 : BitVec 32 := 4#32
  let v217 : BitVec 32 := Scalar.muli v5 c4_i32_138
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v219 : BitVec 32 := Scalar.muli v8 c1_i32_139
  let v220 : BitVec 32 := Scalar.addi v218 v219
  v220.toNat
def k0_dev18 (d0 : Dev nD) : Nat :=
  let c0_i32_145 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_144 : BitVec 32 := 8#32
  let v228 : BitVec 32 := Scalar.muli v9 c8_i32_144
  let v229 : BitVec 32 := Scalar.addi c0_i32_145 v228
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_146 : BitVec 32 := 4#32
  let v230 : BitVec 32 := Scalar.muli v5 c4_i32_146
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v232 : BitVec 32 := Scalar.muli v8 c1_i32_147
  let v233 : BitVec 32 := Scalar.addi v231 v232
  v233.toNat
def k0_dev19 (d0 : Dev nD) : Nat :=
  let c0_i32_153 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_152 : BitVec 32 := 8#32
  let v241 : BitVec 32 := Scalar.muli v9 c8_i32_152
  let v242 : BitVec 32 := Scalar.addi c0_i32_153 v241
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_154 : BitVec 32 := 4#32
  let v243 : BitVec 32 := Scalar.muli v5 c4_i32_154
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v245 : BitVec 32 := Scalar.muli v8 c1_i32_155
  let v246 : BitVec 32 := Scalar.addi v244 v245
  v246.toNat
def k0_dev20 (d0 : Dev nD) : Nat :=
  let c0_i32_161 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_160 : BitVec 32 := 8#32
  let v254 : BitVec 32 := Scalar.muli v9 c8_i32_160
  let v255 : BitVec 32 := Scalar.addi c0_i32_161 v254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_162 : BitVec 32 := 4#32
  let v256 : BitVec 32 := Scalar.muli v5 c4_i32_162
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v258 : BitVec 32 := Scalar.muli v8 c1_i32_163
  let v259 : BitVec 32 := Scalar.addi v257 v258
  v259.toNat
def k0_dev21 (d0 : Dev nD) : Nat :=
  let c0_i32_169 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_168 : BitVec 32 := 8#32
  let v267 : BitVec 32 := Scalar.muli v9 c8_i32_168
  let v268 : BitVec 32 := Scalar.addi c0_i32_169 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_170 : BitVec 32 := 4#32
  let v269 : BitVec 32 := Scalar.muli v5 c4_i32_170
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v271 : BitVec 32 := Scalar.muli v8 c1_i32_171
  let v272 : BitVec 32 := Scalar.addi v270 v271
  v272.toNat
def k0_dev22 (d0 : Dev nD) : Nat :=
  let c0_i32_177 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_176 : BitVec 32 := 8#32
  let v280 : BitVec 32 := Scalar.muli v9 c8_i32_176
  let v281 : BitVec 32 := Scalar.addi c0_i32_177 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_178 : BitVec 32 := 4#32
  let v282 : BitVec 32 := Scalar.muli v5 c4_i32_178
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v284 : BitVec 32 := Scalar.muli v8 c1_i32_179
  let v285 : BitVec 32 := Scalar.addi v283 v284
  v285.toNat
def k0_dev23 (d0 : Dev nD) : Nat :=
  let c0_i32_185 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_184 : BitVec 32 := 8#32
  let v293 : BitVec 32 := Scalar.muli v9 c8_i32_184
  let v294 : BitVec 32 := Scalar.addi c0_i32_185 v293
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_186 : BitVec 32 := 4#32
  let v295 : BitVec 32 := Scalar.muli v5 c4_i32_186
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v297 : BitVec 32 := Scalar.muli v8 c1_i32_187
  let v298 : BitVec 32 := Scalar.addi v296 v297
  v298.toNat
def k0_dev24 (d0 : Dev nD) : Nat :=
  let c0_i32_193 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_192 : BitVec 32 := 8#32
  let v306 : BitVec 32 := Scalar.muli v9 c8_i32_192
  let v307 : BitVec 32 := Scalar.addi c0_i32_193 v306
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_194 : BitVec 32 := 4#32
  let v308 : BitVec 32 := Scalar.muli v5 c4_i32_194
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v310 : BitVec 32 := Scalar.muli v8 c1_i32_195
  let v311 : BitVec 32 := Scalar.addi v309 v310
  v311.toNat
def k0_dev25 (d0 : Dev nD) : Nat :=
  let c0_i32_201 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_200 : BitVec 32 := 8#32
  let v319 : BitVec 32 := Scalar.muli v9 c8_i32_200
  let v320 : BitVec 32 := Scalar.addi c0_i32_201 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_202 : BitVec 32 := 4#32
  let v321 : BitVec 32 := Scalar.muli v5 c4_i32_202
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v323 : BitVec 32 := Scalar.muli v8 c1_i32_203
  let v324 : BitVec 32 := Scalar.addi v322 v323
  v324.toNat
def k0_dev26 (d0 : Dev nD) : Nat :=
  let c0_i32_209 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_208 : BitVec 32 := 8#32
  let v332 : BitVec 32 := Scalar.muli v9 c8_i32_208
  let v333 : BitVec 32 := Scalar.addi c0_i32_209 v332
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_210 : BitVec 32 := 4#32
  let v334 : BitVec 32 := Scalar.muli v5 c4_i32_210
  let v335 : BitVec 32 := Scalar.addi v333 v334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v336 : BitVec 32 := Scalar.muli v8 c1_i32_211
  let v337 : BitVec 32 := Scalar.addi v335 v336
  v337.toNat
def k0_dev27 (d0 : Dev nD) : Nat :=
  let c0_i32_217 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_216 : BitVec 32 := 8#32
  let v345 : BitVec 32 := Scalar.muli v9 c8_i32_216
  let v346 : BitVec 32 := Scalar.addi c0_i32_217 v345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_218 : BitVec 32 := 4#32
  let v347 : BitVec 32 := Scalar.muli v5 c4_i32_218
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v349 : BitVec 32 := Scalar.muli v8 c1_i32_219
  let v350 : BitVec 32 := Scalar.addi v348 v349
  v350.toNat
def k0_dev28 (d0 : Dev nD) : Nat :=
  let c0_i32_225 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_224 : BitVec 32 := 8#32
  let v358 : BitVec 32 := Scalar.muli v9 c8_i32_224
  let v359 : BitVec 32 := Scalar.addi c0_i32_225 v358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_226 : BitVec 32 := 4#32
  let v360 : BitVec 32 := Scalar.muli v5 c4_i32_226
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v362 : BitVec 32 := Scalar.muli v8 c1_i32_227
  let v363 : BitVec 32 := Scalar.addi v361 v362
  v363.toNat
def k0_dev29 (d0 : Dev nD) : Nat :=
  let c0_i32_233 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_232 : BitVec 32 := 8#32
  let v371 : BitVec 32 := Scalar.muli v9 c8_i32_232
  let v372 : BitVec 32 := Scalar.addi c0_i32_233 v371
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_234 : BitVec 32 := 4#32
  let v373 : BitVec 32 := Scalar.muli v5 c4_i32_234
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v375 : BitVec 32 := Scalar.muli v8 c1_i32_235
  let v376 : BitVec 32 := Scalar.addi v374 v375
  v376.toNat
def k0_dev30 (d0 : Dev nD) : Nat :=
  let c0_i32_241 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_240 : BitVec 32 := 8#32
  let v384 : BitVec 32 := Scalar.muli v9 c8_i32_240
  let v385 : BitVec 32 := Scalar.addi c0_i32_241 v384
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_242 : BitVec 32 := 4#32
  let v386 : BitVec 32 := Scalar.muli v5 c4_i32_242
  let v387 : BitVec 32 := Scalar.addi v385 v386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v388 : BitVec 32 := Scalar.muli v8 c1_i32_243
  let v389 : BitVec 32 := Scalar.addi v387 v388
  v389.toNat
def k0_dev31 (d0 : Dev nD) : Nat :=
  let c0_i32_249 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_248 : BitVec 32 := 8#32
  let v397 : BitVec 32 := Scalar.muli v9 c8_i32_248
  let v398 : BitVec 32 := Scalar.addi c0_i32_249 v397
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v399 : BitVec 32 := Scalar.muli v5 c4_i32_250
  let v400 : BitVec 32 := Scalar.addi v398 v399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v401 : BitVec 32 := Scalar.muli v8 c1_i32_251
  let v402 : BitVec 32 := Scalar.addi v400 v401
  v402.toNat
def k0_dev32 (d0 : Dev nD) : Nat :=
  let c0_i32_257 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_256 : BitVec 32 := 8#32
  let v410 : BitVec 32 := Scalar.muli v9 c8_i32_256
  let v411 : BitVec 32 := Scalar.addi c0_i32_257 v410
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_258 : BitVec 32 := 4#32
  let v412 : BitVec 32 := Scalar.muli v5 c4_i32_258
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v414 : BitVec 32 := Scalar.muli v8 c1_i32_259
  let v415 : BitVec 32 := Scalar.addi v413 v414
  v415.toNat
def k0_dev33 (d0 : Dev nD) : Nat :=
  let c0_i32_265 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_264 : BitVec 32 := 8#32
  let v423 : BitVec 32 := Scalar.muli v9 c8_i32_264
  let v424 : BitVec 32 := Scalar.addi c0_i32_265 v423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_266 : BitVec 32 := 4#32
  let v425 : BitVec 32 := Scalar.muli v5 c4_i32_266
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v427 : BitVec 32 := Scalar.muli v8 c1_i32_267
  let v428 : BitVec 32 := Scalar.addi v426 v427
  v428.toNat
def k0_off2 (d0 : Dev nD) (c0_i32_281 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32_271 : BitVec 32 := 4096#32
  let v435 : BitVec 32 := Scalar.muli v2 c4096_i32_271
  let v446 : BitVec 32 := Scalar.addi v435 c0_i32_281
  let c0_i32_286 : BitVec 32 := 0#32
  ![v446.toNat, 0]
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KI.Chunks.lean ====
/- The kernel's body, told chunk by chunk.

   The printed body is one long list of operations: thirty-two remote copies, then thirty-two rounds of the same few
   copies, waits and vector operations, then thirty-two waits. Here it is written once over the chunk's number, and
   `body_eq` says that the printed body is this program. -/
module

public import proofs.«01_k».proof.Proof.Gen.KernelIdeal.Skeleton
public import Idealize.ShloMosaic.Lib.Tactic

@[expose] public section

noncomputable section

namespace Cert.KernelIdeal.Rms

open Idealize.ShloMosaic Idealize.SL.Sem
open Cert.KernelIdeal.Facts₀ Cert.KernelIdeal.Facts

variable {F : FTy → Type} [FloatOps F]

/-! ## The pieces the body addresses -/

/-- Chunk `r` of the output lies inside it. -/
theorem out_inb (r : Fin 32) : ∀ a, (![128 * r.val, 0] : Fin 2 → Nat) a + S128x4096.size a ≤ S4096x4096.size a := by
  have := r.isLt
  intro a
  fin_cases a
  · show 128 * r.val + 128 ≤ 4096
    omega
  · show 0 + 4096 ≤ 4096
    omega

/-- Slot `j` of a two-slot buffer lies inside it. -/
theorem slot_inb (j : Fin 2) : ∀ a, (![j.val, 0, 0] : Fin 3 → Nat) a + S1x128x4096.size a ≤ S2x128x4096.size a := by
  have := j.isLt
  intro a
  fin_cases a
  · show j.val + 1 ≤ 2
    omega
  · show 0 + 128 ≤ 128
    omega
  · show 0 + 4096 ≤ 4096
    omega

theorem sem32_inb (r : Fin 32) : ∀ a, (![r.val] : Fin 1 → Nat) a + S1.size a ≤ S32.size a := by
  have := r.isLt
  intro a
  fin_cases a
  show r.val + 1 ≤ 32
  omega

theorem sem2_inb (j : Fin 2) : ∀ a, (![j.val] : Fin 1 → Nat) a + S1.size a ≤ S2.size a := by
  have := j.isLt
  intro a
  fin_cases a
  show j.val + 1 ≤ 2
  omega

/-- The chunk numbered `n`. -/
def ix (n : Nat) : Fin 32 := ⟨n % 32, Nat.mod_lt _ (by decide)⟩

/-- The slot of chunk `r`: the chunks take the two slots in turn. -/
def slot (r : Fin 32) : Fin 2 := ⟨r.val % 2, Nat.mod_lt _ (by decide)⟩

variable [Facts]

/-- The rows of the device's own block that go to its partner as chunk `r`. -/
abbrev sentM (x : Memref sig .tc .hbm S8192x4096 .f32) (d : Dev nD) (r : Fin 32) :
    Memref sig .tc .hbm S128x4096 .f32 :=
  x.slice (Rect.unit (s := S8192x4096) (k0_off1 d (BitVec.ofNat 32 (128 * r.val))) S128x4096.size (k0_off1_inb d r))
    (fun _ => rfl)

/-- The rows of the device's own block that it keeps as chunk `r`. -/
abbrev keptM (x : Memref sig .tc .hbm S8192x4096 .f32) (d : Dev nD) (r : Fin 32) :
    Memref sig .tc .hbm S128x4096 .f32 :=
  x.slice (Rect.unit (s := S8192x4096) (k0_off2 d (BitVec.ofNat 32 (128 * r.val))) S128x4096.size (k0_off2_inb d r))
    (fun _ => rfl)

/-- Chunk `r` of the output. -/
abbrev outM (o : Memref sig .tc .hbm S4096x4096 .f32) (r : Fin 32) : Memref sig .tc .hbm S128x4096 .f32 :=
  o.slice (Rect.unit (s := S4096x4096) ![128 * r.val, 0] S128x4096.size (out_inb r)) (fun _ => rfl)

/-- Slot `j` of a two-slot buffer, as a matrix. -/
abbrev slotM (b : Memref sig .tc .vmem S2x128x4096 .f32) (j : Fin 2) : Memref sig .tc .vmem S128x4096 .f32 :=
  (b.slice (Rect.unit (s := S2x128x4096) ![j.val, 0, 0] S1x128x4096.size (slot_inb j)) (fun _ => rfl)).squeeze
    S128x4096 squeezes_S1x128x4096_S128x4096

/-- Slot `j` of a two-slot buffer, as the vector operations name it. -/
abbrev slotR (j : Fin 2) : Rect S2x128x4096 :=
  Rect.unit (s := S2x128x4096) ![j.val, 0, 0] S1x128x4096.size (slot_inb j)

abbrev sem32 (s : DmaSems sig S32) (r : Fin 32) : DmaSem sig :=
  ((s.slice (Rect.unit (s := S32) ![r.val] S1.size (sem32_inb r))).squeeze S_ squeezes_S1_S_).sem

abbrev sem2 (s : DmaSems sig S2) (j : Fin 2) : DmaSem sig :=
  ((s.slice (Rect.unit (s := S2) ![j.val] S1.size (sem2_inb j))).squeeze S_ squeezes_S1_S_).sem

abbrev barS : Sem sig := (SemArray.scalar (sig.barrier 0 rfl) : Sems sig S_).sem

/-- The device the kernel talks to. -/
abbrev mate (d : Dev nD) : Dev nD := ⟨k0_dev1 d, k0_dev1_lt d⟩

abbrev BProg : Type 1 := Prog (TpuEff nD τ sig (Elt F) Λ₀ .tc) PUnit

/-! ## The steps of a chunk -/

/-- Send chunk `r` to the partner. -/
def send (x : Memref sig .tc .hbm S8192x4096 .f32) (o : Memref sig .tc .hbm S4096x4096 .f32)
    (ss rs : DmaSems sig S32) (d : Dev nD) (r : Fin 32) : BProg (F := F) :=
  Prog.lift (.enqueueDma (sentM x d r) (.remote (Dev.tc (mate d)) (outM o r) (.dma (sem32 ss r))) (.dma (sem32 rs r))
    (View.wordExact_bits rfl) (View.wordExact_bits rfl) ⟨⟨rfl, Or.inl rfl⟩, trivial⟩)

/-- Wait until the partner's chunk `r` has come. -/
def recvWait (x : Memref sig .tc .hbm S8192x4096 .f32) (o : Memref sig .tc .hbm S4096x4096 .f32)
    (rs : DmaSems sig S32) (d : Dev nD) (r : Fin 32) : BProg (F := F) :=
  Prog.lift (.waitDma2 (sem32 rs r) (sentM x d r) (outM o r) (View.wordExact_bits rfl) (View.wordExact_bits rfl))

/-- Wait until chunk `r` has been sent. -/
def sendWait (x : Memref sig .tc .hbm S8192x4096 .f32) (o : Memref sig .tc .hbm S4096x4096 .f32)
    (ss : DmaSems sig S32) (d : Dev nD) (r : Fin 32) : BProg (F := F) :=
  Prog.lift (.waitDma2 (sem32 ss r) (outM o r) (sentM x d r) (View.wordExact_bits rfl) (View.wordExact_bits rfl))

/-- Start the copies of chunk `r` into its slot: the kept rows, then the received ones. -/
def loads (x : Memref sig .tc .hbm S8192x4096 .f32) (o : Memref sig .tc .hbm S4096x4096 .f32)
    (av bv : Memref sig .tc .vmem S2x128x4096 .f32) (sa sb : DmaSems sig S2) (d : Dev nD) (r : Fin 32) :
    BProg (F := F) := do
  Prog.lift (.enqueueDma (keptM x d r) (.here (slotM av (slot r))) (.dma (sem2 sa (slot r)))
    (View.wordExact_bits rfl) ((View.wordExact_bits rfl).reshape _ _) ⟨Or.inl rfl, trivial⟩)
  Prog.lift (.enqueueDma (outM o r) (.here (slotM bv (slot r))) (.dma (sem2 sb (slot r)))
    (View.wordExact_bits rfl) ((View.wordExact_bits rfl).reshape _ _) ⟨Or.inl rfl, trivial⟩)

/-- Wait for both copies of chunk `r`. -/
def loadsWait (x : Memref sig .tc .hbm S8192x4096 .f32) (o : Memref sig .tc .hbm S4096x4096 .f32)
    (av bv : Memref sig .tc .vmem S2x128x4096 .f32) (sa sb : DmaSems sig S2) (d : Dev nD) (r : Fin 32) :
    BProg (F := F) := do
  Prog.lift (.waitDma2 (sem2 sa (slot r)) (keptM x d r) (slotM av (slot r))
    (View.wordExact_bits rfl) ((View.wordExact_bits rfl).reshape _ _))
  Prog.lift (.waitDma2 (sem2 sb (slot r)) (outM o r) (slotM bv (slot r))
    (View.wordExact_bits rfl) ((View.wordExact_bits rfl).reshape _ _))

/-- Wait until chunk `r` of the result has been written back. -/
def backWait (o : Memref sig .tc .hbm S4096x4096 .f32) (ov : Memref sig .tc .vmem S2x128x4096 .f32)
    (so : DmaSems sig S2) (r : Fin 32) : BProg (F := F) :=
  Prog.lift (.waitDma2 (sem2 so (slot r)) (slotM ov (slot r)) (outM o r)
    ((View.wordExact_bits rfl).reshape _ _) (View.wordExact_bits rfl))

/-- Add, normalise and scale the chunk in slot `j`. -/
def compute (g : Memref sig .tc .vmem S1x4096 .f32) (av bv ov : Memref sig .tc .vmem S2x128x4096 .f32) (j : Fin 2) :
    BProg (F := F) := do
  let a : Vec F S1x128x4096 .f32 ← Prog.lift (.load av (slotR j).toLoadRect (View.loadsAt_vmem h_S1x128x4096))
  let b : Vec F S1x128x4096 .f32 ← Prog.lift (.load bv (slotR j).toLoadRect (View.loadsAt_vmem h_S1x128x4096))
  let w : Vec F S1x4096 .f32 ← Prog.lift (.load g (Rect.unit (s := S1x4096) ![0, 0] S1x4096.size
    inb_S1x4096_S1x4096_0_0).toLoadRect (View.loadsAt_vmem h_S1x4096))
  let _ : Vec F S1x128x4096 .f32 ← Prog.lift (.load ov (slotR j).toLoadRect (View.loadsAt_vmem h_S1x128x4096))
  Prog.lift (.store ov (slotR j) (Gen.k0_pay1 a b w) Finset.univ (View.stores_vmem_bits_univ h_S1x128x4096 rfl)
    (.inl rfl))

/-- Start writing chunk `r` of the result back. -/
def back (o : Memref sig .tc .hbm S4096x4096 .f32) (ov : Memref sig .tc .vmem S2x128x4096 .f32)
    (so : DmaSems sig S2) (r : Fin 32) : BProg (F := F) :=
  Prog.lift (.enqueueDma (slotM ov (slot r)) (.here (outM o r)) (.dma (sem2 so (slot r)))
    ((View.wordExact_bits rfl).reshape _ _) (View.wordExact_bits rfl) ⟨Or.inl rfl, trivial⟩)

/-- Run `f` on the `m` numbers from `p` on, in order. -/
def each (f : Nat → BProg (F := F)) : (m p : Nat) → BProg (F := F)
  | 0, _ => pure ⟨⟩
  | m + 1, p => do f p; each f m (p + 1)

/-- The round of chunk `k + 2`: it also starts chunk `k + 3`, and waits for the write-back of chunk `k`. -/
def round (x : Memref sig .tc .hbm S8192x4096 .f32) (g : Memref sig .tc .vmem S1x4096 .f32)
    (o : Memref sig .tc .hbm S4096x4096 .f32) (av bv ov : Memref sig .tc .vmem S2x128x4096 .f32)
    (rs : DmaSems sig S32) (sa sb so : DmaSems sig S2) (d : Dev nD) (k : Nat) : BProg (F := F) := do
  loadsWait x o av bv sa sb d (ix (k + 2))
  recvWait x o rs d (ix (k + 3))
  loads x o av bv sa sb d (ix (k + 3))
  backWait o ov so (ix k)
  compute g av bv ov (slot (ix (k + 2)))
  back o ov so (ix (k + 2))

/-- The round of chunk `k` for the first two chunks, which wait for no write-back. -/
def first (x : Memref sig .tc .hbm S8192x4096 .f32) (g : Memref sig .tc .vmem S1x4096 .f32)
    (o : Memref sig .tc .hbm S4096x4096 .f32) (av bv ov : Memref sig .tc .vmem S2x128x4096 .f32)
    (rs : DmaSems sig S32) (sa sb so : DmaSems sig S2) (d : Dev nD) (k : Nat) : BProg (F := F) := do
  loadsWait x o av bv sa sb d (ix k)
  recvWait x o rs d (ix (k + 1))
  loads x o av bv sa sb d (ix (k + 1))
  compute g av bv ov (slot (ix k))
  back o ov so (ix k)

/-- The round of the last chunk, which starts no copy, and the last waits for write-backs. -/
def last (x : Memref sig .tc .hbm S8192x4096 .f32) (g : Memref sig .tc .vmem S1x4096 .f32)
    (o : Memref sig .tc .hbm S4096x4096 .f32) (av bv ov : Memref sig .tc .vmem S2x128x4096 .f32)
    (sa sb so : DmaSems sig S2) (d : Dev nD) : BProg (F := F) := do
  loadsWait x o av bv sa sb d (ix 31)
  backWait o ov so (ix 29)
  compute g av bv ov (slot (ix 31))
  back o ov so (ix 31)
  backWait o ov so (ix 30)
  backWait o ov so (ix 31)

/-- The body, chunk by chunk. -/
def body (x : Memref sig .tc .hbm S8192x4096 .f32) (g : Memref sig .tc .vmem S1x4096 .f32)
    (o : Memref sig .tc .hbm S4096x4096 .f32) (av bv ov : Memref sig .tc .vmem S2x128x4096 .f32)
    (ss rs : DmaSems sig S32) (sa sb so : DmaSems sig S2) : BProg (F := F) := do
  let d : Dev nD ← Prog.lift .deviceId
  semSignalWord (mate d) barS 1#32
  semWaitWord barS 1#32
  each (fun n => send x o ss rs d (ix n)) 32 0
  recvWait x o rs d (ix 0)
  loads x o av bv sa sb d (ix 0)
  first x g o av bv ov rs sa sb so d 0
  first x g o av bv ov rs sa sb so d 1
  each (round x g o av bv ov rs sa sb so d) 29 0
  last x g o av bv ov sa sb so d
  each (fun n => sendWait x o ss d (ix n)) 32 0

set_option maxRecDepth 65536 in
/-- The printed body is this program. -/
theorem body_eq (x : Memref sig .tc .hbm S8192x4096 .f32) (hx : x.IsWhole) (g : Memref sig .tc .vmem S1x4096 .f32)
    (hg : g.IsWhole) (o : Memref sig .tc .hbm S4096x4096 .f32) (ho : o.IsWhole)
    (av : Memref sig .tc .vmem S2x128x4096 .f32) (hav : av.IsWhole)
    (bv : Memref sig .tc .vmem S2x128x4096 .f32) (hbv : bv.IsWhole)
    (ov : Memref sig .tc .vmem S2x128x4096 .f32) (hov : ov.IsWhole)
    (ss rs : DmaSems sig S32) (sa sb so : DmaSems sig S2) :
    cc0_body (F := F) x hx g hg o ho av hav bv hbv ov hov ss rs sa sb so = body x g o av bv ov ss rs sa sb so := by
  sl_kernel_rfl

end Cert.KernelIdeal.Rms
-- ==== Proof.KI.Cells.lean ====
/- The protocol between two partners: its cells, what each pays, and what each device owes.

   A device has a barrier cell, thirty-two receive cells and thirty-two send cells. The partner's signal at the barrier
   hands a device the partner's output, so that it may copy into it. The partner's copy of chunk `r` pays receive cell `r`
   with chunk `r` of the device's own output, holding the partner's rows. The device's own copy of chunk `r` pays send
   cell `r` with the rows it read. -/
module

public import proofs.«01_k».proof.Proof.KI.Chunks
public import Idealize.ShloMosaic.Lib.Pipeline.Kit
public import Idealize.ShloMosaic.Lib.Rounds
public import Idealize.ShloMosaic.Lib.Transfers

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

/-! ## The resource algebra: staging rounds, the protocol's rounds, the counters of the local copies -/

abbrev UU : Type := UR sig nD τ × (UR sig nD τ × Counters)

local notation "𝕄" => MT nD τ sig Unit (Elt F) ℕ UU ℕ

abbrev EP : Emb (UR sig nD τ) (MT nD τ sig Unit (Elt F) ℕ UU ℕ) := embL

def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (sig := sig) (Ix := Unit) (Val := Elt F) (Name := ℕ) (U := UU) (Lvl := ℕ)).toEmb

instance ER_landsIn : (ER : Emb (UR sig nD τ) 𝕄).LandsIn (upEmb : UEmb _ 𝕄) := by unfold ER; infer_instance

def EC : UEmb Counters (MT nD τ sig Unit (Elt F) ℕ UU ℕ) :=
  ((UEmb.inr : UEmb Counters (UR sig nD τ × Counters)).trans (UEmb.inr : UEmb (UR sig nD τ × Counters) UU)).trans
    (uEmb (nD := nD) (sig := sig) (Ix := Unit) (Val := Elt F) (Name := ℕ) (U := UU) (Lvl := ℕ))

instance EC_landsIn : (EC : UEmb Counters 𝕄).LandsIn (upEmb : UEmb _ 𝕄) := by unfold EC; infer_instance

/-! ## Partners -/

theorem mate_val (c : Dev nD) : (mate c).val = (4 * ((c.val / 4) % 2) + c.val % 4 + 8) - 8 * (c.val / 8) := Gen.k0_dev1_eq c

theorem mate_mate (c : Dev nD) : mate (mate c) = c := by
  apply Fin.ext
  have h1 := mate_val (mate c)
  have h2 := mate_val c
  have h : c.val < 16 := c.isLt
  omega

def pairs : Dev nD ≃ Dev nD := ⟨mate, mate, mate_mate, mate_mate⟩

/-! ## The buffers -/

abbrev xM : Memref sig .tc .hbm S8192x4096 .f32 := Memref.whole main_v1
abbrev oM : Memref sig .tc .hbm S4096x4096 .f32 := Memref.whole main_v3
abbrev avM : Memref sig .tc .vmem S2x128x4096 .f32 := Memref.whole cc0_scratch0
abbrev bvM : Memref sig .tc .vmem S2x128x4096 .f32 := Memref.whole cc0_scratch1
abbrev ovM : Memref sig .tc .vmem S2x128x4096 .f32 := Memref.whole cc0_scratch2

/-- A matrix of one chunk. -/
abbrev Mat (F : FTy → Type) : Type := S128x4096.Idx → Elt F .f32

/-- Device `c` owns the elements of `v`, which hold the matrix `M`. -/
def holds {sp : Space} (v : Memref sig .tc sp S128x4096 .f32) (c : Dev nD) (M : Mat F) : sProp 𝕄 :=
  iprop(∃ f : Buf (Elt F) (v.view.loc (c : Thread nD τ)), ⌜v.view.read (Elt F) f = M⌝
    ∗ (v.view.loc (c : Thread nD τ) ↦[v.view.set]{fullShare} f))

/-- Device `c` owns the elements of `v`. -/
def room {sp : Space} (v : Memref sig .tc sp S128x4096 .f32) (c : Dev nD) : sProp 𝕄 :=
  iprop(∃ f : Buf (Elt F) (v.view.loc (c : Thread nD τ)), v.view.loc (c : Thread nD τ) ↦[v.view.set]{fullShare} f)

instance holds_storable {sp : Space} (v : Memref sig .tc sp S128x4096 .f32) (c : Dev nD) (M : Mat F) :
    BI.Storable (upEmb : UEmb _ 𝕄) (holds v c M) := by
  unfold holds
  infer_instance

instance room_storable {sp : Space} (v : Memref sig .tc sp S128x4096 .f32) (c : Dev nD) :
    BI.Storable (upEmb : UEmb _ 𝕄) (room (F := F) v c) := by
  unfold room
  infer_instance

theorem holds_room {sp : Space} (v : Memref sig .tc sp S128x4096 .f32) (c : Dev nD) (M : Mat F) :
    (holds v c M : sProp 𝕄) ⊢ room v c := by
  unfold holds room
  iintro ⟨%f, -, H⟩
  iexists f
  iexact H

theorem holds_open {sp : Space} (v : Memref sig .tc sp S128x4096 .f32) (c : Dev nD) (M : Mat F) :
    (holds v c M : sProp 𝕄) ⊢ iprop(∃ f : Buf (Elt F) (v.view.loc (c : Thread nD τ)), ⌜v.view.read (Elt F) f = M⌝
      ∗ (v.view.loc (c : Thread nD τ) ↦[v.view.set]{fullShare} f)) := BI.Entails.refl _

theorem room_open {sp : Space} (v : Memref sig .tc sp S128x4096 .f32) (c : Dev nD) :
    (room v c : sProp 𝕄) ⊢ iprop(∃ f : Buf (Elt F) (v.view.loc (c : Thread nD τ)),
      v.view.loc (c : Thread nD τ) ↦[v.view.set]{fullShare} f) := BI.Entails.refl _

theorem room_intro {sp : Space} (v : Memref sig .tc sp S128x4096 .f32) (c : Dev nD)
    (f : Buf (Elt F) (v.view.loc (c : Thread nD τ))) :
    (v.view.loc (c : Thread nD τ) ↦[v.view.set]{fullShare} f : sProp 𝕄) ⊢ room v c := by
  unfold room
  iintro H
  iexists f
  iexact H

theorem holds_intro {sp : Space} (v : Memref sig .tc sp S128x4096 .f32) (c : Dev nD) (M : Mat F)
    (f : Buf (Elt F) (v.view.loc (c : Thread nD τ))) (h : v.view.read (Elt F) f = M) :
    (v.view.loc (c : Thread nD τ) ↦[v.view.set]{fullShare} f : sProp 𝕄) ⊢ holds v c M := by
  unfold holds
  iintro H
  iexists f
  isplitr
  · ipureintro; exact h
  · iexact H

/-! ## The values -/

section Values

variable (X : Dev nD → (main_v1 : Ref sig .tc).ty.Contents (Elt F))

/-- The rows device `c` sends as chunk `r`. -/
def sent (c : Dev nD) (r : Fin 32) : Mat F := (sentM xM c r).view.read (Elt F) (X c)
/-- The rows device `c` keeps as chunk `r`. -/
def kept (c : Dev nD) (r : Fin 32) : Mat F := (keptM xM c r).view.read (Elt F) (X c)

/-- The two chunks added, normalised row by row and scaled. -/
def norm (a b : Mat F) (w : Vec F S1x4096 .f32) : Mat F :=
  shapeCast S128x4096 (Gen.k0_pay1 (shapeCast S1x128x4096 a shapeCasts_S128x4096_S1x128x4096)
    (shapeCast S1x128x4096 b shapeCasts_S128x4096_S1x128x4096) w) shapeCasts_S1x128x4096_S128x4096

end Values

/-! ## The cells -/

abbrev sendS (r : Fin 32) : DmaSem sig := sem32 cc0_scratch3 r
abbrev recvS (r : Fin 32) : DmaSem sig := sem32 cc0_scratch4 r
abbrev aS (j : Fin 2) : DmaSem sig := sem2 cc0_scratch5 j
abbrev bS (j : Fin 2) : DmaSem sig := sem2 cc0_scratch6 j
abbrev oS (j : Fin 2) : DmaSem sig := sem2 cc0_scratch7 j

theorem sendS_val (r : Fin 32) : (sendS r).val = 1 + r.val := by revert r; decide +kernel
theorem recvS_val (r : Fin 32) : (recvS r).val = 33 + r.val := by revert r; decide +kernel

abbrev barCell (c : Dev nD) : GSem nD τ sig := ((c : Thread nD τ), .reg barS)
abbrev sendCell (c : Dev nD) (r : Fin 32) : GSem nD τ sig := ((c : Thread nD τ), .dma (sendS r))
abbrev recvCell (c : Dev nD) (r : Fin 32) : GSem nD τ sig := ((c : Thread nD τ), .dma (recvS r))

/-- What a semaphore is for. -/
inductive Role where
  | bar
  | send (r : Fin 32)
  | recv (r : Fin 32)
  | other

def role : SemLoc sig → Role
  | .reg s => if s = barS then .bar else .other
  | .dma s =>
    if h : 1 ≤ s.val ∧ s.val < 33 then .send ⟨s.val - 1, by omega⟩
    else if h : 33 ≤ s.val ∧ s.val < 65 then .recv ⟨s.val - 33, by omega⟩
    else .other

theorem role_bar : role (.reg barS) = .bar := by unfold role; exact if_pos rfl

theorem role_send (r : Fin 32) : role (.dma (sendS r)) = .send r := by
  have h := sendS_val r
  have := r.isLt
  dsimp only [role]
  rw [dif_pos ⟨by omega, by omega⟩]
  congr 1
  apply Fin.ext
  show (sendS r).val - 1 = r.val
  omega

theorem role_recv (r : Fin 32) : role (.dma (recvS r)) = .recv r := by
  have h := recvS_val r
  have := r.isLt
  dsimp only [role]
  rw [dif_neg (by omega), dif_pos ⟨by omega, by omega⟩]
  congr 1
  apply Fin.ext
  show (recvS r).val - 33 = r.val
  omega

theorem send_inj {c c' : Dev nD} {r r' : Fin 32} (h : sendCell c r = sendCell c' r') : c = c' ∧ r = r' := by
  have h1 := congrArg (fun g : GSem nD τ sig => g.1.1) h
  have h2 := congrArg (fun g : GSem nD τ sig => role g.2) h
  simp only [role_send, Role.send.injEq] at h2
  exact ⟨h1, h2⟩

theorem recv_inj {c c' : Dev nD} {r r' : Fin 32} (h : recvCell c r = recvCell c' r') : c = c' ∧ r = r' := by
  have h1 := congrArg (fun g : GSem nD τ sig => g.1.1) h
  have h2 := congrArg (fun g : GSem nD τ sig => role g.2) h
  simp only [role_recv, Role.recv.injEq] at h2
  exact ⟨h1, h2⟩

/-- The credit of one chunk. -/
def N : ℕ := (outM oM 0).view.dmaCredit
theorem N_pos : 0 < N := View.dmaCredit_pos _ (by decide)

/-! ## The schedule -/

section Sched

variable (X : Dev nD → (main_v1 : Ref sig .tc).ty.Contents (Elt F))

/-- The partner's output, and that round 0 of its receive cells is reached. -/
def barPay (c : Dev nD) : sProp 𝕄 :=
  iprop(bigSep Finset.univ (fun r : Fin 32 => room (outM oM r) (mate c))
    ∗ bigSep Finset.univ (fun r : Fin 32 => reached ER (recvCell (mate c) r) 0))

/-- Chunk `r` of the own output, holding what the partner sent. -/
def recvPay (c : Dev nD) (r : Fin 32) : sProp 𝕄 := holds (outM oM r) c (sent X (mate c) r)

/-- The rows sent, back. -/
def sendPay (c : Dev nD) (r : Fin 32) : sProp 𝕄 := holds (sentM xM c r) c (sent X c r)

def pay (c : Dev nD) : Role → sProp 𝕄
  | .bar => barPay c
  | .send r => sendPay X c r
  | .recv r => recvPay X c r
  | .other => iprop(emp)

def units : Role → Finset Unit
  | .other => ∅
  | _ => {()}

def price : Role → ℕ
  | .bar => 1
  | _ => N

theorem price_pos : ∀ k, 0 < price k
  | .bar => Nat.one_pos
  | .send _ => N_pos
  | .recv _ => N_pos
  | .other => N_pos

instance pay_storable (c : Dev nD) (k : Role) : BI.Storable (upEmb : UEmb _ 𝕄) (pay X c k) := by
  cases k <;> unfold pay
  · unfold barPay; infer_instance
  · unfold sendPay; infer_instance
  · unfold recvPay; infer_instance
  · infer_instance

/-- One duty, in round 0, on every barrier, send and receive cell. -/
def Rd : Rounds.Schedule (GSem nD τ sig) Unit 𝕄 where
  duties g r := if r = 0 ∧ g.1.2 = .tc then units (role g.2) else ∅
  unitless _ := False
  amount g _ _ := price (role g.2)
  payload g _ _ := pay X g.1.1 (role g.2)
  amount_pos g _ _ _ := price_pos (role g.2)

instance Rd_payload_storable (g : GSem nD τ sig) (r : ℕ) (d : Unit) :
    BI.Storable (upEmb : UEmb _ 𝕄) ((Rd X).payload g r d) := pay_storable X g.1.1 (role g.2)

variable (c : Dev nD) (r : Fin 32)

theorem duties_bar : (Rd X).duties (barCell c) 0 = {()} := by
  dsimp only [Rd]; rw [if_pos ⟨rfl, rfl⟩, role_bar]; rfl
theorem duties_send : (Rd X).duties (sendCell c r) 0 = {()} := by
  dsimp only [Rd]; rw [if_pos ⟨rfl, rfl⟩, role_send]; rfl
theorem duties_recv : (Rd X).duties (recvCell c r) 0 = {()} := by
  dsimp only [Rd]; rw [if_pos ⟨rfl, rfl⟩, role_recv]; rfl
theorem duties_later (g : GSem nD τ sig) : ∀ n, 1 ≤ n → (Rd X).duties g n = ∅ :=
  fun n hn => by dsimp only [Rd]; exact if_neg (fun h => by omega)

theorem amount_bar (u : Unit) : (Rd X).amount (barCell c) 0 u = 1 := by dsimp only [Rd]; rw [role_bar]; rfl
theorem amount_send (u : Unit) : (Rd X).amount (sendCell c r) 0 u = N := by dsimp only [Rd]; rw [role_send]; rfl
theorem amount_recv (u : Unit) : (Rd X).amount (recvCell c r) 0 u = N := by dsimp only [Rd]; rw [role_recv]; rfl

theorem payload_bar (u : Unit) : (Rd X).payload (barCell c) 0 u = barPay c := by dsimp only [Rd]; rw [role_bar]; rfl
theorem payload_send (u : Unit) : (Rd X).payload (sendCell c r) 0 u = sendPay X c r := by
  dsimp only [Rd]; rw [role_send]; rfl
theorem payload_recv (u : Unit) : (Rd X).payload (recvCell c r) 0 u = recvPay X c r := by
  dsimp only [Rd]; rw [role_recv]; rfl

theorem expect_bar : (Rd X).expect (barCell c) 0 = 1 := by
  unfold Schedule.expect Schedule.amountOf; rw [duties_bar, Finset.sum_singleton, amount_bar]
theorem expect_send : (Rd X).expect (sendCell c r) 0 = N := by
  unfold Schedule.expect Schedule.amountOf; rw [duties_send, Finset.sum_singleton, amount_send]
theorem expect_recv : (Rd X).expect (recvCell c r) 0 = N := by
  unfold Schedule.expect Schedule.amountOf; rw [duties_recv, Finset.sum_singleton, amount_recv]

theorem rest_bar : bigSep ((Rd X).duties (barCell c) 0 \ ∅) (fun u => (Rd X).payload (barCell c) 0 u) = barPay c := by
  rw [Finset.sdiff_empty, duties_bar, bigSep_singleton, payload_bar]
theorem rest_send :
    bigSep ((Rd X).duties (sendCell c r) 0 \ ∅) (fun u => (Rd X).payload (sendCell c r) 0 u) = sendPay X c r := by
  rw [Finset.sdiff_empty, duties_send, bigSep_singleton, payload_send]
theorem rest_recv :
    bigSep ((Rd X).duties (recvCell c r) 0 \ ∅) (fun u => (Rd X).payload (recvCell c r) 0 u) = recvPay X c r := by
  rw [Finset.sdiff_empty, duties_recv, bigSep_singleton, payload_recv]

/-- Round 0 over, a cell gives its counter back. -/
theorem close (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

end Sched

/-! ## What a device owes, and the levels -/

/-- The partner's receive credits of the `m` chunks from `p` on. -/
def owed (c : Dev nD) : (m p : ℕ) → CellTallies nD τ sig Unit
  | 0, _ => 0
  | m + 1, p => owed c m (p + 1) + tallyAt (recvCell (mate c) (ix p)) () N

/-- At launch: all the partner's receive credits, and its barrier unit. -/
def O₀ (c : Dev nD) : CellTallies nD τ sig Unit := owed c 32 0 + tallyAt (barCell (mate c)) () 1

def L (g : GSem nD τ sig) : Finset Unit := if g.1.2 = .tc then {()} else ∅

/-- Barrier cells at 1, receive cells at 2, the rest at 0. -/
def lv (g : GSem nD τ sig) (_ : Unit) : ℕ :=
  match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem owed_pos (c : Dev nD) (g : GSem nD τ sig) (u : Unit) :
    ∀ m p, 0 < (owed c m p) g u → ∃ r : Fin 32, g = recvCell (mate c) r
  | 0, _, h => absurd h (Nat.lt_irrefl 0)
  | m + 1, p, h => by
    unfold owed at h
    by_cases hg : g = recvCell (mate c) (ix p) ∧ u = ()
    · exact ⟨ix p, hg.1⟩
    · refine owed_pos c g u m (p + 1) ?_
      have e : (tallyAt (recvCell (mate c) (ix p)) () N : CellTallies nD τ sig Unit) g u = 0 := by
        rw [tallyAt_apply]; exact if_neg hg
      have e2 : (owed c m (p + 1) + tallyAt (recvCell (mate c) (ix p)) () N) g u
          = owed c m (p + 1) g u + (tallyAt (recvCell (mate c) (ix p)) () N : CellTallies nD τ sig Unit) g u := rfl
      omega

theorem mayWait_bar (c : Dev nD) :
    (levAts L lv : sProp 𝕄) ⊢ MayWait (c : Thread nD τ) (.reg barS) () (owed c 32 0) :=
  MayOwe.of_cut (L := L) (lev := lv) 1
    (fun p hp => by rw [Finset.mem_singleton.mp hp, L_tc]; exact Finset.mem_singleton_self _)
    (fun g u hg => by
      obtain ⟨r, rfl⟩ := owed_pos c g u 32 0 hg
      rw [L_tc]; exact Finset.mem_singleton_self _)
    (fun p hp => by rw [Finset.mem_singleton.mp hp]; dsimp only [lv]; rw [role_bar])
    (fun g u hg => by
      obtain ⟨r, rfl⟩ := owed_pos c g u 32 0 hg
      dsimp only [lv]; rw [role_recv]; exact Nat.lt_succ_self 1)

end Cert.KernelIdeal.Rms
-- ==== Proof.KI.Steps.lean ====
/- What each step of a chunk does with the pieces it is given. -/
module

public import proofs.«01_k».proof.Proof.KI.Cells
public import Idealize.ShloMosaic.Lib.Pipeline.Value

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Facts₀ Cert.KernelIdeal.Facts

variable {F : FTy → Type} [FloatOps F] [Facts]

local notation "𝕄" => MT nD τ sig Unit (Elt F) ℕ UU ℕ

abbrev 𝒱₀ : Variants := Variants.none

/-- `p` runs on device `c`, and `Kt` holds at its return. -/
abbrev runs (c : Dev nD) (p : BProg (F := F)) (Kt : PUnit → sProp (MT nD τ sig Unit (Elt F) ℕ UU ℕ)) :
    sProp (MT nD τ sig Unit (Elt F) ℕ UU ℕ) :=
  wp frame (wpE (defs₀ (F := F)) 𝒱₀ (c : Thread nD τ) none) Set.univ p Kt

theorem runs_ret (c : Dev nD) (Kt : PUnit → sProp 𝕄) : Kt ⟨⟩ ⊢ runs c (Prog.ret ⟨⟩) Kt := by
  unfold runs
  rw [wp_ret]
  iintro H
  imodintro
  iexact H

/-- Device `c` owes nothing. -/
def idle (c : Dev nD) : sProp 𝕄 := iprop(∃ W, owes (c : Thread nD τ) (0 : CellTallies nD τ sig Unit) W)

theorem idle_open (c : Dev nD) :
    (idle c : sProp 𝕄) ⊢ iprop(∃ W, owes (c : Thread nD τ) (0 : CellTallies nD τ sig Unit) W) := BI.Entails.refl _

/-! ## Families over the chunks -/

/-- `Φ` at the `m` numbers from `p` on. -/
def fam (Φ : ℕ → sProp 𝕄) : (m p : ℕ) → sProp 𝕄
  | 0, _ => iprop(emp)
  | m + 1, p => iprop(Φ p ∗ fam Φ m (p + 1))

/-- A loop: each round takes `P p`, leaves `Q p`, and takes the state from `T` to `T`. -/
theorem runs_each (c : Dev nD) (f : ℕ → BProg (F := F)) (T : ℕ → ℕ → sProp 𝕄) (P Q : ℕ → sProp 𝕄) (n : ℕ)
    (h : ∀ m p, p + (m + 1) = n → ∀ Kt : PUnit → sProp 𝕄,
      iprop(T (m + 1) p ∗ P p ∗ ((T m (p + 1) ∗ Q p) -∗ Kt ⟨⟩)) ⊢ runs c (f p) Kt) :
    ∀ m p, p + m = n → ∀ Kt : PUnit → sProp 𝕄,
      iprop(T m p ∗ fam P m p ∗ ((T 0 n ∗ fam Q m p) -∗ Kt ⟨⟩)) ⊢ runs c (each f m p) Kt
  | 0, p, hp, Kt => by
    obtain rfl : p = n := by omega
    unfold runs each fam
    show _ ⊢ wp frame _ _ (Prog.ret PUnit.unit) Kt
    rw [wp_ret]
    iintro ⟨HT, -, Hk⟩
    imodintro
    iapply Hk
    isplitl [HT]
    · iexact HT
    · iempintro
  | m + 1, p, hp, Kt => by
    unfold runs each fam
    rw [wp_bind]
    iintro ⟨HT, ⟨HP, HPs⟩, Hk⟩
    iapply (h m p hp _)
    isplitl [HT]; · iexact HT
    isplitl [HP]; · iexact HP
    iintro ⟨HT, HQ⟩
    iapply (runs_each c f T P Q n h m (p + 1) (by omega) Kt)
    isplitl [HT]; · iexact HT
    isplitl [HPs]; · iexact HPs
    iintro ⟨HT, HQs⟩
    iapply Hk
    isplitl [HT]; · iexact HT
    isplitl [HQ]; · iexact HQ
    iexact HQs

/-! ## Credits -/

theorem slot_credit (b : Memref sig .tc .vmem S2x128x4096 .f32) (j : Fin 2) : (slotM b j).view.dmaCredit = N := rfl
theorem out_credit (o : Memref sig .tc .hbm S4096x4096 .f32) (r : Fin 32) : (outM o r).view.dmaCredit = N := rfl
theorem sent_credit (x : Memref sig .tc .hbm S8192x4096 .f32) (c : Dev nD) (r : Fin 32) :
    (sentM x c r).view.dmaCredit = N := rfl

/-! ## The copies into the slots and back -/

/-- Chunk `r`'s kept rows, on their way into its slot. -/
def FA (c : Dev nD) (r : Fin 32) (M : Mat F) : sProp 𝕄 :=
  Flight EC (c : Thread nD τ) (.dma (aS (slot r))) () N
    iprop(holds (slotM avM (slot r)) c M ∗ holds (keptM xM c r) c M)

/-- Chunk `r`'s received rows, on their way into its slot. -/
def FB (c : Dev nD) (r : Fin 32) (M : Mat F) : sProp 𝕄 :=
  Flight EC (c : Thread nD τ) (.dma (bS (slot r))) () N
    iprop(holds (slotM bvM (slot r)) c M ∗ holds (outM oM r) c M)

/-- Chunk `r`'s result, on its way back. -/
def FO (c : Dev nD) (r : Fin 32) (M : Mat F) : sProp 𝕄 :=
  Flight EC (c : Thread nD τ) (.dma (oS (slot r))) () N
    iprop(holds (outM oM r) c M ∗ holds (slotM ovM (slot r)) c M)

/-- What a landed copy is. -/
theorem landed {sp sp' : Space} (src : Memref sig .tc sp S128x4096 .f32) (dst : Memref sig .tc sp' S128x4096 .f32)
    (c : Dev nD) (M : Mat F) (fs : Buf (Elt F) (src.view.loc (c : Thread nD τ)))
    (fd : Buf (Elt F) (dst.view.loc (c : Thread nD τ))) (h : src.view.read (Elt F) fs = M) :
    iprop((dst.view.loc (c : Thread nD τ) ↦[dst.view.set]{fullShare}
        (dst.view.write (Elt F) fd (src.view.read (Elt F) fs) Finset.univ))
      ∗ (src.view.loc (c : Thread nD τ) ↦[src.view.set]{fullShare} fs))
      ⊢ (iprop(holds dst c M ∗ holds src c M) : sProp 𝕄) := by
  iintro ⟨Hd, Hs⟩
  isplitl [Hd]
  · iapply (holds_intro dst c M _ ((View.read_write_univ fd _).trans h)) $$ Hd
  · iapply (holds_intro src c M _ h) $$ Hs

/-- A copy on one device. -/
theorem runs_copy {sp sp' : Space} (src : Memref sig .tc sp S128x4096 .f32) (dst : Memref sig .tc sp' S128x4096 .f32)
    (sm : DmaSem sig) (hs : src.view.WordExact) (hd : dst.view.WordExact)
    (ht : DmaTarget.Typed (nD := nD) (τ := τ) (p := .tc) sp (.dma sm) (.here dst)) (hN : dst.view.dmaCredit = N)
    (c : Dev nD) (M : Mat F) (Kt : PUnit → sProp 𝕄) :
    iprop(holds src c M ∗ room dst c ∗ semVal ((c : Thread nD τ), .dma sm) 0
        ∗ (Flight EC (c : Thread nD τ) (.dma sm) () N iprop(holds dst c M ∗ holds src c M) -∗ Kt ⟨⟩))
      ⊢ runs c (Prog.lift (.enqueueDma src (.here dst) (.dma sm) hs hd ht)) Kt := by
  iintro ⟨Hs, Hd, Hv, Hk⟩
  ihave ⟨%fs, %hM, Hs⟩ := (holds_open src c M) $$ Hs
  ihave ⟨%fd, Hd⟩ := (room_open dst c) $$ Hd
  iapply (wp_dmaLocal EC 𝒱₀ (c : Thread nD τ) none (src := src) (dst := dst) (via := .same) (sm := .dma sm) (fs := fs)
    (fd := fd) () N (show dst.view.amount (.dma sm) = N from hN) N_pos subset_rfl) $$ [Hs Hd Hv]
  · isplitl [Hs]; · iexact Hs
    isplitl [Hd]; · iexact Hd
    iexact Hv
  iintro Hf
  iapply (runs_ret c Kt)
  iapply Hk
  iapply (Flight_mono EC (c : Thread nD τ) (landed src dst c M fs fd hM)) $$ Hf

/-- The wait for a copy on one device. -/
theorem runs_copied {sp sp' : Space} (src : Memref sig .tc sp S128x4096 .f32) (dst : Memref sig .tc sp' S128x4096 .f32)
    (sm : DmaSem sig) (hs : src.view.WordExact) (hd : dst.view.WordExact) (hN : dst.view.dmaCredit = N)
    (c : Dev nD) (D : sProp 𝕄) (Kt : PUnit → sProp 𝕄) :
    iprop(Flight EC (c : Thread nD τ) (.dma sm) () N D ∗ idle c
        ∗ ((D ∗ semVal ((c : Thread nD τ), .dma sm) 0 ∗ idle c) -∗ Kt ⟨⟩))
      ⊢ runs c (Prog.lift (.waitDma2 sm src dst hs hd)) Kt := by
  iintro ⟨Hf, Hi, Hk⟩
  ihave ⟨%W, HO⟩ := (idle_open c) $$ Hi
  iapply (wp_waitLocal EC 𝒱₀ (c : Thread nD τ) none (sem := sm) (srcw := src) (dstw := dst) () hN) $$ [Hf HO]
  · isplitl [Hf]; · iexact Hf
    iexact HO
  iintro ⟨HD, Hv, HO⟩
  iapply (runs_ret c Kt)
  iapply Hk
  isplitl [HD]; · iexact HD
  isplitl [Hv]; · iexact Hv
  unfold idle
  iexists _
  iexact HO

/-- The slot of chunk `r` in the two load buffers, free, and its two counters at zero. -/
def free (c : Dev nD) (j : Fin 2) : sProp 𝕄 :=
  iprop(room (slotM avM j) c ∗ room (slotM bvM j) c
    ∗ semVal ((c : Thread nD τ), .dma (aS j)) 0 ∗ semVal ((c : Thread nD τ), .dma (bS j)) 0)

theorem runs_loads (c : Dev nD) (r : Fin 32) (A B : Mat F) (Kt : PUnit → sProp 𝕄) :
    iprop(holds (keptM xM c r) c A ∗ holds (outM oM r) c B ∗ free c (slot r) ∗ ((FA c r A ∗ FB c r B) -∗ Kt ⟨⟩))
      ⊢ runs c (loads xM oM avM bvM cc0_scratch5 cc0_scratch6 c r) Kt := by
  unfold runs loads free
  rw [wp_bind]
  iintro ⟨Hx, Ho, ⟨Ha, Hb, Hsa, Hsb⟩, Hk⟩
  iapply (runs_copy (keptM xM c r) (slotM avM (slot r)) (aS (slot r)) _ _ _ (slot_credit _ _) c A _)
  isplitl [Hx]; · iexact Hx
  isplitl [Ha]; · iexact Ha
  isplitl [Hsa]; · iexact Hsa
  iintro HA
  iapply (runs_copy (outM oM r) (slotM bvM (slot r)) (bS (slot r)) _ _ _ (slot_credit _ _) c B _)
  isplitl [Ho]; · iexact Ho
  isplitl [Hb]; · iexact Hb
  isplitl [Hsb]; · iexact Hsb
  iintro HB
  iapply Hk
  unfold FA FB
  isplitl [HA]; · iexact HA
  iexact HB

/-- Both copies of chunk `r` there. -/
def there (c : Dev nD) (r : Fin 32) (A B : Mat F) : sProp 𝕄 :=
  iprop((holds (slotM avM (slot r)) c A ∗ holds (slotM bvM (slot r)) c B)
    ∗ (semVal ((c : Thread nD τ), .dma (aS (slot r))) 0 ∗ semVal ((c : Thread nD τ), .dma (bS (slot r))) 0)
    ∗ holds (keptM xM c r) c A ∗ holds (outM oM r) c B)

theorem runs_loadsWait (c : Dev nD) (r : Fin 32) (A B : Mat F) (Kt : PUnit → sProp 𝕄) :
    iprop(FA c r A ∗ FB c r B ∗ idle c ∗ ((there c r A B ∗ idle c) -∗ Kt ⟨⟩))
      ⊢ runs c (loadsWait xM oM avM bvM cc0_scratch5 cc0_scratch6 c r) Kt := by
  unfold runs loadsWait FA FB there
  rw [wp_bind]
  iintro ⟨HA, HB, Hi, Hk⟩
  iapply (runs_copied (keptM xM c r) (slotM avM (slot r)) (aS (slot r)) _ _ (slot_credit _ _) c _ _)
  isplitl [HA]; · iexact HA
  isplitl [Hi]; · iexact Hi
  iintro ⟨⟨Ha, Hx⟩, Hsa, Hi⟩
  iapply (runs_copied (outM oM r) (slotM bvM (slot r)) (bS (slot r)) _ _ (slot_credit _ _) c _ _)
  isplitl [HB]; · iexact HB
  isplitl [Hi]; · iexact Hi
  iintro ⟨⟨Hb, Ho⟩, Hsb, Hi⟩
  iapply Hk
  iframe Ha Hb Hsa Hsb Hx Ho Hi

/-- Slot `j` of the result buffer, free, and its counter at zero. -/
def oFree (c : Dev nD) (j : Fin 2) : sProp 𝕄 :=
  iprop(room (slotM ovM j) c ∗ semVal ((c : Thread nD τ), .dma (oS j)) 0)

theorem runs_back (c : Dev nD) (r : Fin 32) (M : Mat F) (Kt : PUnit → sProp 𝕄) :
    iprop(holds (slotM ovM (slot r)) c M ∗ semVal ((c : Thread nD τ), .dma (oS (slot r))) 0 ∗ room (outM oM r) c
        ∗ (FO c r M -∗ Kt ⟨⟩))
      ⊢ runs c (back oM ovM cc0_scratch7 r) Kt := by
  unfold back FO
  iintro ⟨Hs, Hv, Ho, Hk⟩
  iapply (runs_copy (slotM ovM (slot r)) (outM oM r) (oS (slot r)) _ _ _ (out_credit _ _) c M _)
  isplitl [Hs]; · iexact Hs
  isplitl [Ho]; · iexact Ho
  isplitl [Hv]; · iexact Hv
  iexact Hk

theorem runs_backWait (c : Dev nD) (r : Fin 32) (M : Mat F) (Kt : PUnit → sProp 𝕄) :
    iprop(FO c r M ∗ idle c ∗ ((holds (outM oM r) c M ∗ oFree c (slot r) ∗ idle c) -∗ Kt ⟨⟩))
      ⊢ runs c (backWait oM ovM cc0_scratch7 r) Kt := by
  unfold backWait FO oFree
  iintro ⟨Hf, Hi, Hk⟩
  iapply (runs_copied (slotM ovM (slot r)) (outM oM r) (oS (slot r)) _ _ (out_credit _ _) c _ _)
  isplitl [Hf]; · iexact Hf
  isplitl [Hi]; · iexact Hi
  iintro ⟨⟨Ho, Hs⟩, Hv, Hi⟩
  iapply Hk
  isplitl [Ho]; · iexact Ho
  isplitl [Hs Hv]
  · isplitl [Hs]
    · iapply (holds_room _ c M) $$ Hs
    · iexact Hv
  iexact Hi

/-! ## The vector operations -/

theorem slot_set (b : Memref sig .tc .vmem S2x128x4096 .f32) (j : Fin 2) :
    (slotM b j).view.set = (b.access (slotR j)).set := View.set_reshape _ _

theorem slot_read (b : Memref sig .tc .vmem S2x128x4096 .f32) (j : Fin 2) (f : b.view.ty.Contents (Elt F)) :
    (slotM b j).view.read (Elt F) f
      = shapeCast S128x4096 ((b.access (slotR j)).read (Elt F) f) shapeCasts_S1x128x4096_S128x4096 := rfl

theorem slot_vec (b : Memref sig .tc .vmem S2x128x4096 .f32) (j : Fin 2) (f : b.view.ty.Contents (Elt F)) (M : Mat F)
    (h : (slotM b j).view.read (Elt F) f = M) :
    (b.access (slotR j)).read (Elt F) f = shapeCast S1x128x4096 M shapeCasts_S128x4096_S1x128x4096 := by
  rw [← h, slot_read]
  exact (shapeCast_shapeCast _ _ _).symm

/-- The scale vector, as the vector operations read it. -/
abbrev gR : Rect S1x4096 := Rect.unit (s := S1x4096) ![0, 0] S1x4096.size inb_S1x4096_S1x4096_0_0

theorem runs_compute (c : Dev nD) (g : Memref sig .tc .vmem S1x4096 .f32) (fg : Buf (Elt F) (g.view.loc (c : Thread nD τ)))
    (j : Fin 2) (A B : Mat F) (Kt : PUnit → sProp 𝕄) :
    iprop(holds (slotM avM j) c A ∗ holds (slotM bvM j) c B ∗ (g.view.loc (c : Thread nD τ) ↦[g.view.set]{fullShare} fg)
        ∗ room (slotM ovM j) c
        ∗ ((holds (slotM avM j) c A ∗ holds (slotM bvM j) c B ∗ (g.view.loc (c : Thread nD τ) ↦[g.view.set]{fullShare} fg)
          ∗ holds (slotM ovM j) c (norm A B ((g.access gR).read (Elt F) fg))) -∗ Kt ⟨⟩))
      ⊢ runs c (compute g avM bvM ovM j) Kt := by
  iintro ⟨Ha, Hb, Hg, Ho, Hk⟩
  ihave ⟨%fa, %hA, Ha⟩ := (holds_open (slotM avM j) c A) $$ Ha
  ihave ⟨%fb, %hB, Hb⟩ := (holds_open (slotM bvM j) c B) $$ Hb
  ihave ⟨%fo, Ho⟩ := (room_open (slotM ovM j) c) $$ Ho
  unfold runs compute
  iapply (wp_load_rect 𝒱₀ (c : Thread nD τ) none Set.univ (m := avM) (r := slotR j) (f := fa)
    (subset_of_eq (slot_set avM j).symm)) $$ [Ha]
  · iexact Ha
  iintro Ha
  iapply (wp_load_rect 𝒱₀ (c : Thread nD τ) none Set.univ (m := bvM) (r := slotR j) (f := fb)
    (subset_of_eq (slot_set bvM j).symm)) $$ [Hb]
  · iexact Hb
  iintro Hb
  iapply (wp_load_rect 𝒱₀ (c : Thread nD τ) none Set.univ (m := g) (r := gR) (f := fg)
    (View.set_slice_subset _ _)) $$ [Hg]
  · iexact Hg
  iintro Hg
  iapply (wp_load_rect 𝒱₀ (c : Thread nD τ) none Set.univ (m := ovM) (r := slotR j) (f := fo)
    (subset_of_eq (slot_set ovM j).symm)) $$ [Ho]
  · iexact Ho
  iintro Ho
  iapply (wp_store 𝒱₀ (c : Thread nD τ) none Set.univ (m := ovM) (r := slotR j) (f := fo)
    ((View.setOn_subset_set _ _).trans (subset_of_eq (slot_set ovM j).symm))) $$ [Ho]
  · iexact Ho
  iintro Ho
  iapply (runs_ret c Kt)
  iapply Hk
  isplitl [Ha]; · iapply (holds_intro (slotM avM j) c A fa hA) $$ Ha
  isplitl [Hb]; · iapply (holds_intro (slotM bvM j) c B fb hB) $$ Hb
  isplitl [Hg]; · iexact Hg
  iapply (holds_intro (slotM ovM j) c _ _ ?_) $$ Ho
  rw [slot_read, View.read_write_univ, slot_vec avM j fa A hA, slot_vec bvM j fb B hB]
  rfl

end Cert.KernelIdeal.Rms
-- ==== Proof.KI.Talk.lean ====
/- The steps in which a device and its partner talk: the sends, and the waits for what was sent and received. -/
module

public import proofs.«01_k».proof.Proof.KI.Steps

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

local notation "𝕄" => MT nD τ sig Unit (Elt F) ℕ UU ℕ

variable (X : Dev nD → (main_v1 : Ref sig .tc).ty.Contents (Elt F))

/-- The invariants of chunk `r`: the own send and receive cell, and the partner's receive cell. -/
def chunkInvs (K : GSem nD τ sig → ℕ) (c : Dev nD) (r : Fin 32) : sProp 𝕄 :=
  iprop(cellInv ER (Rd X) (K (sendCell c r)) (sendCell c r) ∗ cellInv ER (Rd X) (K (recvCell c r)) (recvCell c r)
    ∗ cellInv ER (Rd X) (K (recvCell (mate c) r)) (recvCell (mate c) r))

instance chunkInvs_persistent (K : GSem nD τ sig → ℕ) (c : Dev nD) (r : Fin 32) :
    BI.Persistent (chunkInvs X K c r) := by unfold chunkInvs; infer_instance

/-- The invariants device `c` opens. -/
def invs (K : GSem nD τ sig → ℕ) (c : Dev nD) : sProp 𝕄 :=
  iprop((cellInv ER (Rd X) (K (barCell c)) (barCell c) ∗ cellInv ER (Rd X) (K (barCell (mate c))) (barCell (mate c)))
    ∗ bigSep Finset.univ (fun r : Fin 32 => chunkInvs X K c r))

instance invs_persistent (K : GSem nD τ sig → ℕ) (c : Dev nD) : BI.Persistent (invs X K c) := by
  unfold invs; infer_instance

variable (K : GSem nD τ sig → ℕ) (c : Dev nD)

theorem invs_chunk (r : Fin 32) : (invs X K c : sProp 𝕄) ⊢ chunkInvs X K c r := by
  have e : bigSep Finset.univ (fun r : Fin 32 => (chunkInvs X K c r : sProp 𝕄))
      ⊢ iprop(chunkInvs X K c r ∗ bigSep (Finset.univ.erase r) (fun r : Fin 32 => chunkInvs X K c r)) :=
    Entails.of_eq (bigSep_erase (Finset.mem_univ r))
  unfold invs
  iintro ⟨-, H⟩
  ihave ⟨H, -⟩ := e $$ H
  iexact H

/-- What the send of chunk `r` takes. -/
def toSend (r : Fin 32) : sProp 𝕄 :=
  iprop(holds (sentM xM c r) c (sent X c r) ∗ room (outM oM r) (mate c)
    ∗ (dutyTok ER (sendCell c r) 0 () ∗ reached ER (sendCell c r) 0)
    ∗ (dutyTok ER (recvCell (mate c) r) 0 () ∗ reached ER (recvCell (mate c) r) 0))

/-- Device `c` still owes the `m` chunks from `p` on. -/
def owing (m p : ℕ) : sProp 𝕄 := iprop(∃ W, owes (c : Thread nD τ) (owed c m p) W)

theorem owing_open (m p : ℕ) : (owing c m p : sProp 𝕄) ⊢ iprop(∃ W, owes (c : Thread nD τ) (owed c m p) W) :=
  BI.Entails.refl _

theorem runs_send (m p : ℕ) (Kt : PUnit → sProp 𝕄) :
    iprop((invs X K c ∗ owing c (m + 1) p) ∗ toSend X c (ix p)
        ∗ (((invs X K c ∗ owing c m (p + 1)) ∗ cred (tallyAt (sendCell c (ix p)) () N)) -∗ Kt ⟨⟩))
      ⊢ runs c (send xM oM cc0_scratch3 cc0_scratch4 c (ix p)) Kt := by
  unfold toSend
  iintro ⟨⟨#HI, HO⟩, ⟨Hx, Ho, ⟨HtS, HrS⟩, HtV, HrV⟩, Hk⟩
  ihave Hc := (invs_chunk X K c (ix p)) $$ HI
  unfold chunkInvs
  icases Hc with ⟨#HIs, -, #HIv⟩
  ihave ⟨%fs, %hs, Hx⟩ := (holds_open (sentM xM c (ix p)) c (sent X c (ix p))) $$ Hx
  ihave ⟨%fd, Ho⟩ := (room_open (outM oM (ix p)) (mate c)) $$ Ho
  ihave ⟨%W, HO⟩ := (owing_open c (m + 1) p) $$ HO
  unfold runs send
  iapply (Rounds.wp_send_pointsTo 𝒱₀ ER (Rd X) (c : Thread nD τ) none (c' := (mate c : Thread nD τ))
      (src := sentM xM c (ix p)) (dst := outM oM (ix p))
      (sS := .dma (sendS (ix p))) (sem := .dma (recvS (ix p))) (q := fullShare) (fs := fs) (κ₁ := K (sendCell c (ix p)))
      (κ₂ := K (recvCell (mate c) (ix p))) (r₁ := 0) (r₂ := 0) (d₁ := ()) (d₂ := ()) (fd := fd)
      (by rw [duties_send]; exact Finset.mem_singleton_self _) (by rw [duties_recv]; exact Finset.mem_singleton_self _)
      () () N (show (outM oM (ix p)).view.amount (.dma (recvS (ix p))) = N from out_credit oM (ix p))
      (amount_send X c (ix p) ()) (amount_recv X (mate c) (ix p) ()) (owed c m (p + 1)) rfl (W := W)
      (by rw [payload_send]; exact holds_intro (sentM xM c (ix p)) c _ fs hs)
      (by
        rw [payload_recv]
        unfold recvPay
        rw [mate_mate]
        exact holds_intro (outM oM (ix p)) (mate c) _ _ ((View.read_write_univ _ _).trans hs)))
    $$ [Hx Ho HO HtS HrS HtV HrV]
  · isplitr; · iexact HIs
    isplitr; · iexact HIv
    isplitl [Hx]; · iexact Hx
    isplitl [Ho]; · iexact Ho
    isplitl [HO]; · iexact HO
    isplitl [HtS]; · iexact HtS
    isplitl [HrS]; · iexact HrS
    isplitl [HtV]; · iexact HtV
    iexact HrV
  iintro ⟨Hc, HO⟩
  iapply (runs_ret c Kt)
  iapply Hk
  isplitl [HO]
  · isplitr; · iexact HI
    unfold owing
    iexists W
    iexact HO
  · iexact Hc

/-- What the wait for the partner's chunk `r` takes. -/
def toRecv (r : Fin 32) : sProp 𝕄 :=
  iprop(cred (tallyAt (recvCell c r) () N) ∗ atPos ER (recvCell c r) 0 ∅ 0)

theorem runs_recvWait (r : Fin 32) (Kt : PUnit → sProp 𝕄) :
    iprop(invs X K c ∗ idle c ∗ toRecv c r
        ∗ ((idle c ∗ atPos ER (recvCell c r) (0 + 1) ∅ 0 ∗ holds (outM oM r) c (sent X (mate c) r)) -∗ Kt ⟨⟩))
      ⊢ runs c (recvWait xM oM cc0_scratch4 c r) Kt := by
  unfold toRecv
  iintro ⟨#HI, Hi, ⟨Hc, Hat⟩, Hk⟩
  ihave Hci := (invs_chunk X K c r) $$ HI
  unfold chunkInvs
  icases Hci with ⟨-, #HIv, -⟩
  ihave ⟨%W, HO⟩ := (idle_open c) $$ Hi
  unfold runs recvWait
  iapply (Rounds.wp_wait_rest_token 𝒱₀ ER (Rd X) (c : Thread nD τ) none (κ := K (recvCell c r))
      (wpE_waitDma2_eq (src := sentM xM c r) (dst := outM oM r) 𝒱₀ (c : Thread nD τ) none Set.univ) (Set.mem_univ _) ()
      (O := 0) (W := W) (R := 0) (m := 0) (T := ∅)
      (((Nat.zero_add _).trans (out_credit oM r)).trans (expect_recv X c r).symm)) $$ [Hc HO Hat]
  · isplitr; · iexact HIv
    isplitl [Hc]; · iexact Hc
    isplitl [HO]; · iexact HO
    isplitr; · rw [MayWait_zero]; iempintro
    iexact Hat
  iintro ⟨HO, Hat, -, Hpay⟩
  ihave Hp := (Entails.of_eq (rest_recv X c r)) $$ Hpay
  unfold recvPay
  iapply (runs_ret c Kt)
  iapply Hk
  isplitl [HO]
  · unfold idle
    iexists _
    iexact HO
  isplitl [Hat]; · iexact Hat
  iexact Hp

/-- What the wait for the own send of chunk `r` takes, and what it leaves. -/
def toEnd (r : Fin 32) : sProp 𝕄 :=
  iprop(cred (tallyAt (sendCell c r) () N) ∗ atPos ER (sendCell c r) 0 ∅ 0)
def ended (r : Fin 32) : sProp 𝕄 :=
  iprop(atPos ER (sendCell c r) (0 + 1) ∅ 0 ∗ holds (sentM xM c r) c (sent X c r))

theorem runs_sendWait (r : Fin 32) (Kt : PUnit → sProp 𝕄) :
    iprop((invs X K c ∗ idle c) ∗ toEnd c r ∗ (((invs X K c ∗ idle c) ∗ ended X c r) -∗ Kt ⟨⟩))
      ⊢ runs c (sendWait xM oM cc0_scratch3 c r) Kt := by
  unfold toEnd ended
  iintro ⟨⟨#HI, Hi⟩, ⟨Hc, Hat⟩, Hk⟩
  ihave Hci := (invs_chunk X K c r) $$ HI
  unfold chunkInvs
  icases Hci with ⟨#HIs, -, -⟩
  ihave ⟨%W, HO⟩ := (idle_open c) $$ Hi
  unfold runs sendWait
  iapply (Rounds.wp_wait_rest_token 𝒱₀ ER (Rd X) (c : Thread nD τ) none (κ := K (sendCell c r))
      (wpE_waitDma2_eq (src := outM oM r) (dst := sentM xM c r) 𝒱₀ (c : Thread nD τ) none Set.univ) (Set.mem_univ _) ()
      (O := 0) (W := W) (R := 0) (m := 0) (T := ∅)
      (((Nat.zero_add _).trans (sent_credit xM c r)).trans (expect_send X c r).symm)) $$ [Hc HO Hat]
  · isplitr; · iexact HIs
    isplitl [Hc]; · iexact Hc
    isplitl [HO]; · iexact HO
    isplitr; · rw [MayWait_zero]; iempintro
    iexact Hat
  iintro ⟨HO, Hat, -, Hpay⟩
  ihave Hp := (Entails.of_eq (rest_send X c r)) $$ Hpay
  unfold sendPay
  iapply (runs_ret c Kt)
  iapply Hk
  isplitl [HO]
  · isplitr; · iexact HI
    unfold idle
    iexists _
    iexact HO
  isplitl [Hat]; · iexact Hat
  iexact Hp

end Cert.KernelIdeal.Rms
-- ==== Proof.KI.Rounds.lean ====
/- The rounds of the chunks: what the first two, the ones in the middle and the last do. -/
module

public import proofs.«01_k».proof.Proof.KI.Talk

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

local notation "𝕄" => MT nD τ sig Unit (Elt F) ℕ UU ℕ

/-- Chunks two apart share a slot. -/
theorem slot_two (n : ℕ) : slot (ix (n + 2)) = slot (ix n) := by
  apply Fin.ext
  show (n + 2) % 32 % 2 = n % 32 % 2
  omega

variable (X : Dev nD → (main_v1 : Ref sig .tc).ty.Contents (Elt F)) (K : GSem nD τ sig → ℕ) (c : Dev nD)
  (g : Memref sig .tc .vmem S1x4096 .f32) (fg : Buf (Elt F) (g.view.loc (c : Thread nD τ)))

/-- The scale vector's buffer. -/
def scale : sProp 𝕄 := iprop(g.view.loc (c : Thread nD τ) ↦[g.view.set]{fullShare} fg)

/-- The result of chunk `r`. -/
def result (r : Fin 32) : Mat F := norm (kept X c r) (sent X (mate c) r) ((g.access gR).read (Elt F) fg)

/-- Chunk `r` on its way into its slot. -/
def coming (r : Fin 32) : sProp 𝕄 := iprop(FA c r (kept X c r) ∗ FB c r (sent X (mate c) r))

/-- What a round takes to start chunk `r`, and what of it is left. -/
def toStart (r : Fin 32) : sProp 𝕄 := iprop(toRecv c r ∗ holds (keptM xM c r) c (kept X c r))

/-- Chunk `r` received, its receive cell's round over. -/
def received (r : Fin 32) : sProp 𝕄 := atPos ER (recvCell c r) (0 + 1) ∅ 0

/-- Wait for the partner's chunk `r`, and start its copies. -/
def start (r : Fin 32) : BProg (F := F) := do
  recvWait xM oM cc0_scratch4 c r
  loads xM oM avM bvM cc0_scratch5 cc0_scratch6 c r

/-- Add, normalise and scale chunk `r`, and start writing it back. -/
def finish (r : Fin 32) : BProg (F := F) := do
  compute g avM bvM ovM (slot r)
  back oM ovM cc0_scratch7 r

theorem runs_start (r : Fin 32) (Kt : PUnit → sProp 𝕄) :
    iprop(invs X K c ∗ idle c ∗ toStart X c r ∗ free c (slot r) ∗ ((idle c ∗ received c r ∗ coming X c r) -∗ Kt ⟨⟩))
      ⊢ runs c (start c r) Kt := by
  unfold start toStart received coming
  unfold runs
  rw [wp_bind]
  iintro ⟨#HI, Hi, ⟨Hr, Hx⟩, Hf, Hk⟩
  iapply (runs_recvWait X K c r _)
  isplitr; · iexact HI
  isplitl [Hi]; · iexact Hi
  isplitl [Hr]; · iexact Hr
  iintro ⟨Hi, Hat, Ho⟩
  iapply (runs_loads c r (kept X c r) (sent X (mate c) r) Kt)
  isplitl [Hx]; · iexact Hx
  isplitl [Ho]; · iexact Ho
  isplitl [Hf]; · iexact Hf
  iintro ⟨HA, HB⟩
  iapply Hk
  iframe Hi Hat HA HB

theorem runs_finish (r : Fin 32) (Kt : PUnit → sProp 𝕄) :
    iprop(there c r (kept X c r) (sent X (mate c) r) ∗ oFree c (slot r) ∗ scale c g fg
        ∗ ((holds (keptM xM c r) c (kept X c r) ∗ free c (slot r) ∗ scale c g fg ∗ FO c r (result X c g fg r)) -∗ Kt ⟨⟩))
      ⊢ runs c (finish g r) Kt := by
  unfold finish there oFree scale free result
  unfold runs
  rw [wp_bind]
  iintro ⟨⟨⟨Ha, Hb⟩, ⟨Hsa, Hsb⟩, Hx, Ho⟩, ⟨Hov, Hso⟩, Hg, Hk⟩
  iapply (runs_compute c g fg (slot r) (kept X c r) (sent X (mate c) r) _)
  isplitl [Ha]; · iexact Ha
  isplitl [Hb]; · iexact Hb
  isplitl [Hg]; · iexact Hg
  isplitl [Hov]; · iexact Hov
  iintro ⟨Ha, Hb, Hg, Hov⟩
  iapply (runs_back c r _ Kt)
  isplitl [Hov]; · iexact Hov
  isplitl [Hso]; · iexact Hso
  isplitl [Ho]; · iapply (holds_room (outM oM r) c _) $$ Ho
  iintro HO
  iapply Hk
  isplitl [Hx]; · iexact Hx
  isplitl [Ha Hb Hsa Hsb]
  · isplitl [Ha]; · iapply (holds_room (slotM avM (slot r)) c _) $$ Ha
    isplitl [Hb]; · iapply (holds_room (slotM bvM (slot r)) c _) $$ Hb
    isplitl [Hsa]; · iexact Hsa
    iexact Hsb
  isplitl [Hg]; · iexact Hg
  iexact HO

/-- One of the first two rounds. -/
theorem runs_first (k : ℕ) (Kt : PUnit → sProp 𝕄) :
    iprop(invs X K c ∗ idle c ∗ coming X c (ix k) ∗ toStart X c (ix (k + 1)) ∗ free c (slot (ix (k + 1)))
        ∗ oFree c (slot (ix k)) ∗ scale c g fg
        ∗ ((idle c ∗ coming X c (ix (k + 1)) ∗ received c (ix (k + 1)) ∗ free c (slot (ix k))
            ∗ holds (keptM xM c (ix k)) c (kept X c (ix k)) ∗ FO c (ix k) (result X c g fg (ix k)) ∗ scale c g fg) -∗ Kt ⟨⟩))
      ⊢ runs c (first xM g oM avM bvM ovM cc0_scratch4 cc0_scratch5 cc0_scratch6 cc0_scratch7 c k) Kt := by
  have e : first (F := F) xM g oM avM bvM ovM cc0_scratch4 cc0_scratch5 cc0_scratch6 cc0_scratch7 c k = (do
      loadsWait xM oM avM bvM cc0_scratch5 cc0_scratch6 c (ix k)
      start c (ix (k + 1))
      finish g (ix k)) := rfl
  rw [e]
  unfold runs
  rw [wp_bind, wp_bind]
  iintro ⟨#HI, Hi, Hin, Hst, Hf, Hof, Hg, Hk⟩
  unfold coming
  icases Hin with ⟨HA, HB⟩
  iapply (runs_loadsWait c (ix k) _ _ _)
  isplitl [HA]; · iexact HA
  isplitl [HB]; · iexact HB
  isplitl [Hi]; · iexact Hi
  iintro ⟨Ht, Hi⟩
  iapply (runs_start X K c (ix (k + 1)) _)
  isplitr; · iexact HI
  isplitl [Hi]; · iexact Hi
  isplitl [Hst]; · iexact Hst
  isplitl [Hf]; · iexact Hf
  iintro ⟨Hi, Hr, Hin⟩
  iapply (runs_finish X c g fg (ix k) Kt)
  isplitl [Ht]; · iexact Ht
  isplitl [Hof]; · iexact Hof
  isplitl [Hg]; · iexact Hg
  iintro ⟨Hx, Hf, Hg, HO⟩
  iapply Hk
  unfold coming
  icases Hin with ⟨HA, HB⟩
  iframe Hi HA HB Hr Hf Hx HO Hg

/-- The state before round `k + 2`. -/
def mid (k : ℕ) : sProp 𝕄 :=
  iprop(invs X K c ∗ idle c ∗ coming X c (ix (k + 2)) ∗ free c (slot (ix (k + 3)))
    ∗ FO c (ix k) (result X c g fg (ix k)) ∗ FO c (ix (k + 1)) (result X c g fg (ix (k + 1))) ∗ scale c g fg)

/-- What round `k + 2` leaves behind. -/
def left (k : ℕ) : sProp 𝕄 :=
  iprop(received c (ix (k + 3)) ∗ holds (keptM xM c (ix (k + 2))) c (kept X c (ix (k + 2)))
    ∗ holds (outM oM (ix k)) c (result X c g fg (ix k)))

theorem runs_round (k : ℕ) (Kt : PUnit → sProp 𝕄) :
    iprop(mid X K c g fg k ∗ toStart X c (ix (k + 3)) ∗ ((mid X K c g fg (k + 1) ∗ left X c g fg k) -∗ Kt ⟨⟩))
      ⊢ runs c (round xM g oM avM bvM ovM cc0_scratch4 cc0_scratch5 cc0_scratch6 cc0_scratch7 c k) Kt := by
  have e : round (F := F) xM g oM avM bvM ovM cc0_scratch4 cc0_scratch5 cc0_scratch6 cc0_scratch7 c k = (do
      loadsWait xM oM avM bvM cc0_scratch5 cc0_scratch6 c (ix (k + 2))
      start c (ix (k + 3))
      backWait oM ovM cc0_scratch7 (ix k)
      finish g (ix (k + 2))) := rfl
  rw [e]
  unfold runs
  rw [wp_bind, wp_bind, wp_bind]
  unfold mid left
  iintro ⟨⟨#HI, Hi, Hin, Hf, HO1, HO2, Hg⟩, Hst, Hk⟩
  unfold coming
  icases Hin with ⟨HA, HB⟩
  iapply (runs_loadsWait c (ix (k + 2)) _ _ _)
  isplitl [HA]; · iexact HA
  isplitl [HB]; · iexact HB
  isplitl [Hi]; · iexact Hi
  iintro ⟨Ht, Hi⟩
  iapply (runs_start X K c (ix (k + 3)) _)
  isplitr; · iexact HI
  isplitl [Hi]; · iexact Hi
  isplitl [Hst]; · iexact Hst
  isplitl [Hf]; · iexact Hf
  iintro ⟨Hi, Hr, Hin⟩
  iapply (runs_backWait c (ix k) _ _)
  isplitl [HO1]; · iexact HO1
  isplitl [Hi]; · iexact Hi
  iintro ⟨Ho, Hof, Hi⟩
  iapply (runs_finish X c g fg (ix (k + 2)) Kt)
  isplitl [Ht]; · iexact Ht
  isplitl [Hof]; · rw [slot_two]; iexact Hof
  isplitl [Hg]; · iexact Hg
  iintro ⟨Hx, Hf, Hg, HO⟩
  iapply Hk
  isplitl [Hi Hin Hf HO2 HO Hg]
  · isplitr; · iexact HI
    isplitl [Hi]; · iexact Hi
    isplitl [Hin]; · unfold coming; iexact Hin
    isplitl [Hf]; · rw [show slot (ix (k + 1 + 3)) = slot (ix (k + 2)) from slot_two (k + 2)]; iexact Hf
    isplitl [HO2]; · iexact HO2
    isplitl [HO]; · iexact HO
    iexact Hg
  · isplitl [Hr]; · iexact Hr
    isplitl [Hx]; · iexact Hx
    iexact Ho

/-- The last round, and the waits for the last two write-backs. -/
theorem runs_last (Kt : PUnit → sProp 𝕄) :
    iprop(mid X K c g fg 29
        ∗ ((idle c ∗ scale c g fg ∗ free c 0 ∗ free c 1 ∗ oFree c 0 ∗ oFree c 1
            ∗ holds (keptM xM c (ix 31)) c (kept X c (ix 31))
            ∗ holds (outM oM (ix 29)) c (result X c g fg (ix 29)) ∗ holds (outM oM (ix 30)) c (result X c g fg (ix 30))
            ∗ holds (outM oM (ix 31)) c (result X c g fg (ix 31))) -∗ Kt ⟨⟩))
      ⊢ runs c (last xM g oM avM bvM ovM cc0_scratch5 cc0_scratch6 cc0_scratch7 c) Kt := by
  have e : last (F := F) xM g oM avM bvM ovM cc0_scratch5 cc0_scratch6 cc0_scratch7 c = (do
      loadsWait xM oM avM bvM cc0_scratch5 cc0_scratch6 c (ix 31)
      backWait oM ovM cc0_scratch7 (ix 29)
      finish g (ix 31)
      backWait oM ovM cc0_scratch7 (ix 30)
      backWait oM ovM cc0_scratch7 (ix 31)) := rfl
  rw [e]
  unfold runs
  rw [wp_bind, wp_bind, wp_bind, wp_bind]
  unfold mid
  iintro ⟨⟨#HI, Hi, Hin, Hf, HO1, HO2, Hg⟩, Hk⟩
  unfold coming
  icases Hin with ⟨HA, HB⟩
  iapply (runs_loadsWait c (ix 31) _ _ _)
  isplitl [HA]; · iexact HA
  isplitl [HB]; · iexact HB
  isplitl [Hi]; · iexact Hi
  iintro ⟨Ht, Hi⟩
  iapply (runs_backWait c (ix 29) _ _)
  isplitl [HO1]; · iexact HO1
  isplitl [Hi]; · iexact Hi
  iintro ⟨Ho, Hof, Hi⟩
  iapply (runs_finish X c g fg (ix 31) _)
  isplitl [Ht]; · iexact Ht
  isplitl [Hof]; · rw [show slot (ix 31) = slot (ix 29) from slot_two 29]; iexact Hof
  isplitl [Hg]; · iexact Hg
  iintro ⟨Hx, Hf1, Hg, HO⟩
  iapply (runs_backWait c (ix 30) _ _)
  isplitl [HO2]; · iexact HO2
  isplitl [Hi]; · iexact Hi
  iintro ⟨Ho2, Hof0, Hi⟩
  iapply (runs_backWait c (ix 31) _ _)
  isplitl [HO]; · iexact HO
  isplitl [Hi]; · iexact Hi
  iintro ⟨Ho3, Hof1, Hi⟩
  iapply Hk
  isplitl [Hi]; · iexact Hi
  isplitl [Hg]; · iexact Hg
  isplitl [Hf]; · iexact Hf
  isplitl [Hf1]; · iexact Hf1
  isplitl [Hof0]; · iexact Hof0
  isplitl [Hof1]; · iexact Hof1
  isplitl [Hx]; · iexact Hx
  isplitl [Ho]; · iexact Ho
  isplitl [Ho2]; · iexact Ho2
  iexact Ho3

end Cert.KernelIdeal.Rms
-- ==== Proof.KI.Body.lean ====
/- The whole body: the greeting at the barrier, the sends, the rounds, and the waits for the sends. -/
module

public import proofs.«01_k».proof.Proof.KI.Rounds
public import Idealize.ShloMosaic.Lib.Pipeline.BigSepL

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

local notation "𝕄" => MT nD τ sig Unit (Elt F) ℕ UU ℕ

/-! ## Families -/

theorem fam_list (Φ : Fin 32 → sProp 𝕄) : ∀ m p,
    fam (fun n => Φ (ix n)) m p = bigSepL ((List.range' p m).map ix) Φ
  | 0, _ => rfl
  | m + 1, p => by
    unfold fam
    rw [fam_list Φ m (p + 1), List.range'_succ, List.map_cons, bigSepL_cons']

theorem fam_all (Φ : Fin 32 → sProp 𝕄) : bigSep Finset.univ Φ = fam (fun n => Φ (ix n)) 32 0 := by
  rw [fam_list, bigSep_univ_eq_bigSepL ((List.range' 0 32).map ix) (by decide) (by decide)]

theorem fam_sep (Φ Ψ : ℕ → sProp 𝕄) : ∀ m p, iprop(fam Φ m p ∗ fam Ψ m p) ⊢ fam (fun n => iprop(Φ n ∗ Ψ n)) m p
  | 0, _ => by
    unfold fam
    iintro ⟨-, -⟩
    iempintro
  | m + 1, p => by
    unfold fam
    iintro ⟨⟨H, Hs⟩, H', Hs'⟩
    isplitl [H H']
    · isplitl [H]; · iexact H
      iexact H'
    · iapply (fam_sep Φ Ψ m (p + 1))
      isplitl [Hs]; · iexact Hs
      iexact Hs'

theorem fam_unsep (Φ Ψ : ℕ → sProp 𝕄) : ∀ m p, fam (fun n => iprop(Φ n ∗ Ψ n)) m p ⊢ iprop(fam Φ m p ∗ fam Ψ m p)
  | 0, _ => by
    unfold fam
    iintro -
    isplitl <;> iempintro
  | m + 1, p => by
    unfold fam
    iintro ⟨⟨H, H'⟩, Hs⟩
    ihave ⟨Hs, Hs'⟩ := (fam_unsep Φ Ψ m (p + 1)) $$ Hs
    isplitl [H Hs]
    · isplitl [H]; · iexact H
      iexact Hs
    · isplitl [H']; · iexact H'
      iexact Hs'

theorem fam_shift (Φ : ℕ → sProp 𝕄) (k : ℕ) : ∀ m p, fam (fun n => Φ (n + k)) m p = fam Φ m (p + k)
  | 0, _ => rfl
  | m + 1, p => by
    unfold fam
    rw [fam_shift Φ k m (p + 1), show p + 1 + k = p + k + 1 by omega]

theorem fam_cons (Φ : ℕ → sProp 𝕄) (m p : ℕ) : iprop(Φ p ∗ fam Φ m (p + 1)) ⊢ fam Φ (m + 1) p := Entails.refl _

theorem fam_snoc (Φ : ℕ → sProp 𝕄) : ∀ m p, iprop(fam Φ m p ∗ Φ (p + m)) ⊢ fam Φ (m + 1) p
  | 0, p => by
    show iprop(emp ∗ Φ p) ⊢ iprop(Φ p ∗ emp)
    iintro ⟨-, H⟩
    isplitl [H]; · iexact H
    iempintro
  | m + 1, p => by
    show iprop((Φ p ∗ fam Φ m (p + 1)) ∗ Φ (p + (m + 1))) ⊢ iprop(Φ p ∗ fam Φ (m + 1) (p + 1))
    iintro ⟨⟨H, Hs⟩, H'⟩
    isplitl [H]; · iexact H
    iapply (fam_snoc Φ m (p + 1))
    isplitl [Hs]; · iexact Hs
    rw [show p + 1 + m = p + (m + 1) by omega]
    iexact H'

variable (X : Dev nD → (main_v1 : Ref sig .tc).ty.Contents (Elt F)) (K : GSem nD τ sig → ℕ) (c : Dev nD)
  (g : Memref sig .tc .vmem S1x4096 .f32) (fg : Buf (Elt F) (g.view.loc (c : Thread nD τ)))

/-! ## The greeting -/

/-- What the greeting at the barrier takes. -/
def toGreet : sProp 𝕄 :=
  iprop((atPos ER (barCell c) 0 ∅ 0 ∗ cred (tallyAt (barCell c) () 1) ∗ levAts L lv)
    ∗ (reached ER (barCell (mate c)) 0 ∗ dutyTok ER (barCell (mate c)) 0 ())
    ∗ bigSep Finset.univ (fun r : Fin 32 => room (outM oM r) c)
    ∗ bigSep Finset.univ (fun r : Fin 32 => reached ER (recvCell c r) 0)
    ∗ ∃ W, owes (c : Thread nD τ) (O₀ c) W)

/-- The greeting. -/
def greet : BProg (F := F) := do
  semSignalWord (mate c) barS 1#32
  semWaitWord barS 1#32

theorem runs_greet (Kt : PUnit → sProp 𝕄) :
    iprop(invs X K c ∗ toGreet c
        ∗ ((owing c 32 0 ∗ atPos ER (barCell c) (0 + 1) ∅ 0 ∗ barPay c) -∗ Kt ⟨⟩))
      ⊢ runs c (greet c) Kt := by
  have e : (greet c : BProg (F := F)) = .op (.semSignal (Dev.tc (mate c)) barS 1) fun _ =>
      .op (.semWait barS 1) fun _ => .ret ⟨⟩ := rfl
  rw [e]
  unfold runs toGreet invs
  iintro ⟨#⟨⟨HIb, HIp⟩, -⟩, ⟨⟨Hat, Hc, #Hlev⟩, ⟨Hr, Ht⟩, Hos, Hrs, ⟨%W, HO⟩⟩, Hk⟩
  iapply (Rounds.wp_signal 𝒱₀ ER (Rd X) (c : Thread nD τ) none (dst := (mate c : Thread nD τ)) (sem := barS) (r := 0)
      (d := ()) (κ := K (barCell (mate c)))
      (by rw [duties_bar]; exact Finset.mem_singleton_self _) (amount_bar X (mate c) ()) () (owed c 32 0) rfl)
    $$ [HO Ht Hr Hos Hrs]
  · isplitr; · iexact HIp
    isplitl [HO]; · iexact HO
    isplitl [Ht]; · iexact Ht
    isplitl [Hos Hrs]
    · rw [payload_bar]; unfold barPay; rw [mate_mate]
      isplitl [Hos]; · iexact Hos
      iexact Hrs
    · iexact Hr
  iintro HO
  iapply (Rounds.wp_wait_rest_token 𝒱₀ ER (Rd X) (c : Thread nD τ) none (κ := K (barCell c))
      (wpE_semWait_eq 𝒱₀ (c : Thread nD τ) none Set.univ) (Set.mem_univ _) () (O := owed c 32 0) (W := W) (R := 0)
      (m := 0) (T := ∅) ((Nat.zero_add 1).trans (expect_bar X c).symm)) $$ [Hc HO Hat]
  · isplitr; · iexact HIb
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  iapply (runs_ret c Kt)
  iapply Hk
  isplitl [HO]
  · unfold owing
    iexists _
    iexact HO
  isplitl [Hat]; · iexact Hat
  iexact Hp

theorem owing_idle (p : ℕ) : owing c 0 p ⊢ (idle c : sProp 𝕄) := Entails.refl _

/-! ## The body -/

/-- What the body takes. -/
def bodyPre : sProp 𝕄 :=
  iprop(invs X K c ∗ toGreet c
    ∗ (bigSep Finset.univ (fun r : Fin 32 => holds (sentM xM c r) c (sent X c r))
      ∗ bigSep Finset.univ (fun r : Fin 32 => iprop(dutyTok ER (sendCell c r) 0 () ∗ reached ER (sendCell c r) 0))
      ∗ bigSep Finset.univ (fun r : Fin 32 => dutyTok ER (recvCell (mate c) r) 0 ())
      ∗ bigSep Finset.univ (fun r : Fin 32 => atPos ER (sendCell c r) 0 ∅ 0))
    ∗ bigSep Finset.univ (fun r : Fin 32 => toStart X c r)
    ∗ (free c 0 ∗ free c 1 ∗ oFree c 0 ∗ oFree c 1)
    ∗ scale c g fg)

/-- What it leaves. -/
def bodyPost : sProp 𝕄 :=
  iprop(atPos ER (barCell c) (0 + 1) ∅ 0
    ∗ bigSep Finset.univ (fun r : Fin 32 => received c r)
    ∗ bigSep Finset.univ (fun r : Fin 32 => ended X c r)
    ∗ bigSep Finset.univ (fun r : Fin 32 => holds (keptM xM c r) c (kept X c r))
    ∗ bigSep Finset.univ (fun r : Fin 32 => holds (outM oM r) c (result X c g fg r))
    ∗ (free c 0 ∗ free c 1 ∗ oFree c 0 ∗ oFree c 1)
    ∗ scale c g fg ∗ idle c)

/-- All that the sends take, from its parts. -/
theorem toSend_all :
    iprop((bigSep Finset.univ (fun r : Fin 32 => holds (sentM xM c r) c (sent X c r))
        ∗ bigSep Finset.univ (fun r : Fin 32 => iprop(dutyTok ER (sendCell c r) 0 () ∗ reached ER (sendCell c r) 0))
        ∗ bigSep Finset.univ (fun r : Fin 32 => dutyTok ER (recvCell (mate c) r) 0 ()))
      ∗ barPay c)
      ⊢ (fam (fun n => toSend X c (ix n)) 32 0 : sProp 𝕄) := by
  unfold barPay toSend
  rw [fam_all, fam_all, fam_all, fam_all, fam_all]
  iintro ⟨⟨Hx, HS, HV⟩, Ho, Hr⟩
  iapply (fam_sep _ _ 32 0)
  isplitl [Hx]; · iexact Hx
  iapply (fam_sep _ _ 32 0)
  isplitl [Ho]; · iexact Ho
  iapply (fam_sep _ _ 32 0)
  isplitl [HS]; · iexact HS
  iapply (fam_sep _ _ 32 0)
  isplitl [HV]; · iexact HV
  iexact Hr

/-- The rounds: from the first chunk's copies to the last write-back. -/
def rounds (d : Dev nD) : BProg (F := F) := do
  first xM g oM avM bvM ovM cc0_scratch4 cc0_scratch5 cc0_scratch6 cc0_scratch7 d 0
  first xM g oM avM bvM ovM cc0_scratch4 cc0_scratch5 cc0_scratch6 cc0_scratch7 d 1
  each (round xM g oM avM bvM ovM cc0_scratch4 cc0_scratch5 cc0_scratch6 cc0_scratch7 d) 29 0
  last xM g oM avM bvM ovM cc0_scratch5 cc0_scratch6 cc0_scratch7 d

theorem runs_rounds (Kt : PUnit → sProp 𝕄) :
    iprop(invs X K c ∗ idle c ∗ bigSep Finset.univ (fun r : Fin 32 => toStart X c r)
        ∗ (free c 0 ∗ free c 1 ∗ oFree c 0 ∗ oFree c 1) ∗ scale c g fg
        ∗ ((idle c ∗ scale c g fg ∗ (free c 0 ∗ free c 1 ∗ oFree c 0 ∗ oFree c 1)
            ∗ bigSep Finset.univ (fun r : Fin 32 => received c r)
            ∗ bigSep Finset.univ (fun r : Fin 32 => holds (keptM xM c r) c (kept X c r))
            ∗ bigSep Finset.univ (fun r : Fin 32 => holds (outM oM r) c (result X c g fg r))) -∗ Kt ⟨⟩))
      ⊢ runs c (do start c (ix 0); rounds g c) Kt := by
  rw [fam_all, fam_all, fam_all, fam_all]
  have e : fam (fun n => (toStart X c (ix n) : sProp 𝕄)) 32 0
      = iprop(toStart X c (ix 0) ∗ toStart X c (ix 1) ∗ toStart X c (ix 2) ∗ fam (fun n => toStart X c (ix n)) 29 (0 + 3)) := rfl
  rw [e, ← fam_shift]
  unfold runs rounds
  rw [wp_bind, wp_bind, wp_bind, wp_bind]
  iintro ⟨#HI, Hi, ⟨Hs0, Hs1, Hs2, Hss⟩, ⟨Hf0, Hf1, Ho0, Ho1⟩, Hg, Hk⟩
  iapply (runs_start X K c (ix 0) _)
  isplitr; · iexact HI
  isplitl [Hi]; · iexact Hi
  isplitl [Hs0]; · iexact Hs0
  isplitl [Hf0]; · iexact Hf0
  iintro ⟨Hi, Hr0, Hin⟩
  iapply (runs_first X K c g fg 0 _)
  isplitr; · iexact HI
  isplitl [Hi]; · iexact Hi
  isplitl [Hin]; · iexact Hin
  isplitl [Hs1]; · iexact Hs1
  isplitl [Hf1]; · iexact Hf1
  isplitl [Ho0]; · iexact Ho0
  isplitl [Hg]; · iexact Hg
  iintro ⟨Hi, Hin, Hr1, Hf0, Hx0, HO0, Hg⟩
  iapply (runs_first X K c g fg 1 _)
  isplitr; · iexact HI
  isplitl [Hi]; · iexact Hi
  isplitl [Hin]; · iexact Hin
  isplitl [Hs2]; · iexact Hs2
  isplitl [Hf0]; · iexact Hf0
  isplitl [Ho1]; · iexact Ho1
  isplitl [Hg]; · iexact Hg
  iintro ⟨Hi, Hin, Hr2, Hf1, Hx1, HO1, Hg⟩
  iapply (runs_each c _ (fun _ k => mid X K c g fg k) (fun k => toStart X c (ix (k + 3))) (fun k => left X c g fg k) 29
    (fun m p _ Kt => runs_round X K c g fg p Kt) 29 0 rfl _)
  isplitl [Hi Hin Hf1 HO0 HO1 Hg]
  · unfold mid
    isplitr; · iexact HI
    isplitl [Hi]; · iexact Hi
    isplitl [Hin]; · iexact Hin
    isplitl [Hf1]; · iexact Hf1
    isplitl [HO0]; · iexact HO0
    isplitl [HO1]; · iexact HO1
    iexact Hg
  isplitl [Hss]; · iexact Hss
  iintro ⟨Hm, Hl⟩
  iapply (runs_last X K c g fg Kt)
  isplitl [Hm]; · iexact Hm
  iintro ⟨Hi, Hg, Hf0, Hf1, Ho0, Ho1, Hx31, Hy29, Hy30, Hy31⟩
  unfold left
  ihave ⟨Hrs, Hl⟩ := (fam_unsep _ _ 29 0) $$ Hl
  ihave ⟨Hxs, Hys⟩ := (fam_unsep _ _ 29 0) $$ Hl
  iapply Hk
  isplitl [Hi]; · iexact Hi
  isplitl [Hg]; · iexact Hg
  isplitl [Hf0 Hf1 Ho0 Ho1]
  · isplitl [Hf0]; · iexact Hf0
    isplitl [Hf1]; · iexact Hf1
    isplitl [Ho0]; · iexact Ho0
    iexact Ho1
  isplitl [Hr0 Hr1 Hr2 Hrs]
  · ihave Hrs := (Entails.of_eq (fam_shift (fun n => (received c (ix n) : sProp 𝕄)) 3 29 0)) $$ Hrs
    iapply (fam_cons (fun n => (received c (ix n) : sProp 𝕄)) 31 0)
    isplitl [Hr0]; · iexact Hr0
    iapply (fam_cons (fun n => (received c (ix n) : sProp 𝕄)) 30 1)
    isplitl [Hr1]; · iexact Hr1
    iapply (fam_cons (fun n => (received c (ix n) : sProp 𝕄)) 29 2)
    isplitl [Hr2]; · iexact Hr2
    iexact Hrs
  isplitl [Hx0 Hx1 Hxs Hx31]
  · ihave Hxs := (Entails.of_eq (fam_shift (fun n => (holds (keptM xM c (ix n)) c (kept X c (ix n)) : sProp 𝕄)) 2 29 0)) $$ Hxs
    iapply (fam_cons (fun n => (holds (keptM xM c (ix n)) c (kept X c (ix n)) : sProp 𝕄)) 31 0)
    isplitl [Hx0]; · iexact Hx0
    iapply (fam_cons (fun n => (holds (keptM xM c (ix n)) c (kept X c (ix n)) : sProp 𝕄)) 30 1)
    isplitl [Hx1]; · iexact Hx1
    iapply (fam_snoc (fun n => (holds (keptM xM c (ix n)) c (kept X c (ix n)) : sProp 𝕄)) 29 2)
    isplitl [Hxs]; · iexact Hxs
    iexact Hx31
  · iapply (fam_snoc (fun n => (holds (outM oM (ix n)) c (result X c g fg (ix n)) : sProp 𝕄)) 31 0)
    isplitr [Hy31]
    · iapply (fam_snoc (fun n => (holds (outM oM (ix n)) c (result X c g fg (ix n)) : sProp 𝕄)) 30 0)
      isplitr [Hy30]
      · iapply (fam_snoc (fun n => (holds (outM oM (ix n)) c (result X c g fg (ix n)) : sProp 𝕄)) 29 0)
        isplitl [Hys]; · iexact Hys
        iexact Hy29
      · iexact Hy30
    · iexact Hy31

theorem runs_device (k : Dev nD → BProg (F := F)) (Kt : PUnit → sProp 𝕄) :
    runs c (.op .deviceId k) Kt = runs c (k c) Kt := by
  unfold runs
  rw [wp_deviceId]

/-- The body, its device known. -/
def told (d : Dev nD) : BProg (F := F) := do
  greet d
  each (fun n => send xM oM cc0_scratch3 cc0_scratch4 d (ix n)) 32 0
  (do start d (ix 0); rounds g d)
  each (fun n => sendWait xM oM cc0_scratch3 d (ix n)) 32 0

theorem body_told : body (F := F) xM g oM avM bvM ovM cc0_scratch3 cc0_scratch4 cc0_scratch5 cc0_scratch6 cc0_scratch7
    = .op .deviceId (told g) := by
  unfold body told greet start rounds
  simp only [bind_assoc]
  rfl

theorem runs_body (Kt : PUnit → sProp 𝕄) :
    iprop(bodyPre X K c g fg ∗ (bodyPost X c g fg -∗ Kt ⟨⟩))
      ⊢ runs c (body xM g oM avM bvM ovM cc0_scratch3 cc0_scratch4 cc0_scratch5 cc0_scratch6 cc0_scratch7) Kt := by
  rw [body_told, runs_device]
  unfold runs told
  rw [wp_bind, wp_bind, wp_bind]
  unfold bodyPre bodyPost
  iintro ⟨⟨#HI, Hgreet, ⟨Hx, HS, HV, Has⟩, Hstart, Hfree, Hg⟩, Hk⟩
  iapply (runs_greet X K c _)
  isplitr; · iexact HI
  isplitl [Hgreet]; · iexact Hgreet
  iintro ⟨HO, Hbar, Hpay⟩
  ihave Hsend := (toSend_all X c) $$ [Hx HS HV Hpay]
  · isplitr [Hpay]
    · isplitl [Hx]; · iexact Hx
      isplitl [HS]; · iexact HS
      iexact HV
    · iexact Hpay
  iapply (runs_each c _ (fun m p => iprop(invs X K c ∗ owing c m p)) (fun n => toSend X c (ix n))
    (fun n => cred (tallyAt (sendCell c (ix n)) () N)) 32
    (fun m p _ Kt => runs_send X K c m p Kt) 32 0 rfl _)
  isplitl [HO]
  · isplitr; · iexact HI
    iexact HO
  isplitl [Hsend]; · iexact Hsend
  iintro ⟨⟨-, HO⟩, Hcr⟩
  iapply (runs_rounds X K c g fg _)
  isplitr; · iexact HI
  isplitl [HO]; · iapply (owing_idle c 32); iexact HO
  isplitl [Hstart]; · iexact Hstart
  isplitl [Hfree]; · iexact Hfree
  isplitl [Hg]; · iexact Hg
  iintro ⟨Hi, Hg, Hfree, Hrec, Hkept, Hout⟩
  ihave Has := (Entails.of_eq (fam_all (fun r : Fin 32 => (atPos ER (sendCell c r) 0 ∅ 0 : sProp 𝕄)))) $$ Has
  ihave Hend := (fam_sep _ _ 32 0) $$ [Hcr Has]
  · isplitl [Hcr]; · iexact Hcr
    iexact Has
  iapply (runs_each c _ (fun _ _ => iprop(invs X K c ∗ idle c)) (fun n => toEnd c (ix n))
    (fun n => ended X c (ix n)) 32
    (fun m p _ Kt => runs_sendWait X K c (ix p) Kt) 32 0 rfl _)
  isplitl [Hi]
  · isplitr; · iexact HI
    iexact Hi
  isplitl [Hend]; · iexact Hend
  iintro ⟨⟨-, Hi⟩, Hended⟩
  iapply Hk
  isplitl [Hbar]; · iexact Hbar
  isplitl [Hrec]; · iexact Hrec
  isplitl [Hended]; · iapply (Entails.of_eq (fam_all (fun r : Fin 32 => (ended X c r : sProp 𝕄))).symm); iexact Hended
  isplitl [Hkept]; · iexact Hkept
  isplitl [Hout]; · iexact Hout
  isplitl [Hfree]; · iexact Hfree
  isplitl [Hg]; · iexact Hg
  iexact Hi

end Cert.KernelIdeal.Rms
-- ==== Proof.KI.Pieces.lean ====
/- The whole buffers and their chunks. -/
module

public import proofs.«01_k».proof.Proof.KI.Body
public import Idealize.ShloMosaic.Lib.ViewIndex

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F] [Facts]

local notation "𝕄" => MT nD τ sig Unit (Elt F) ℕ UU ℕ

/-- Elements that hold `M` are held at any contents that read `M` there. -/
theorem holds_at {sp : Space} (v : Memref sig .tc sp S128x4096 .f32) (c : Dev nD) (M : Mat F)
    (f : Buf (Elt F) (v.view.loc (c : Thread nD τ))) (h : v.view.read (Elt F) f = M) :
    (holds v c M : sProp 𝕄) ⊢ iprop(v.view.loc (c : Thread nD τ) ↦[v.view.set]{fullShare} f) := by
  iintro H
  ihave ⟨%f', %h', H⟩ := (holds_open v c M) $$ H
  have e : ∀ i ∈ v.view.set, f' i = f i := by
    intro i hi
    obtain ⟨x, -, rfl⟩ := Finset.mem_map.mp hi
    exact View.eq_of_read_eq (congrFun (h'.trans h.symm) x)
  iapply (Entails.of_eq (pointsTo_congr e)) $$ H

/-! ## Which rows a chunk has -/

theorem mem_sent (c : Dev nD) (r : Fin 32) (i : S8192x4096.Idx) :
    i ∈ (sentM xM c r).view.set ↔ (i 0).val / 128 = (32 + r.val) - 32 * (c.val / 8) := by
  have hc : c.val < 16 := c.isLt
  have hr := r.isLt
  rw [show (sentM xM c r).view.set = (Rect.unit (s := S8192x4096) (k0_off1 c (BitVec.ofNat 32 (128 * r.val))) S128x4096.size
    (k0_off1_inb c r)).set from View.set_slice_whole main_v1 _, Rect.mem_set_unit, Gen.k0_off1_eq, Fin.forall_fin_two]
  have h1 : (i 1).val < 4096 := (i 1).isLt
  show ((128 * r.val + 4096) - 4096 * (c.val / 8) ≤ (i 0).val ∧ (i 0).val < (128 * r.val + 4096) - 4096 * (c.val / 8) + 128)
    ∧ (0 ≤ (i 1).val ∧ (i 1).val < 0 + 4096) ↔ _
  omega

theorem mem_kept (c : Dev nD) (r : Fin 32) (i : S8192x4096.Idx) :
    i ∈ (keptM xM c r).view.set ↔ (i 0).val / 128 = 32 * (c.val / 8) + r.val := by
  have hc : c.val < 16 := c.isLt
  have hr := r.isLt
  rw [show (keptM xM c r).view.set = (Rect.unit (s := S8192x4096) (k0_off2 c (BitVec.ofNat 32 (128 * r.val))) S128x4096.size
    (k0_off2_inb c r)).set from View.set_slice_whole main_v1 _, Rect.mem_set_unit, Gen.k0_off2_eq, Fin.forall_fin_two]
  have h1 : (i 1).val < 4096 := (i 1).isLt
  show (4096 * (c.val / 8) + 128 * r.val ≤ (i 0).val ∧ (i 0).val < 4096 * (c.val / 8) + 128 * r.val + 128)
    ∧ (0 ≤ (i 1).val ∧ (i 1).val < 0 + 4096) ↔ _
  omega

theorem mem_out (r : Fin 32) (i : S4096x4096.Idx) : i ∈ (outM oM r).view.set ↔ (i 0).val / 128 = r.val := by
  have hr := r.isLt
  rw [show (outM oM r).view.set = (Rect.unit (s := S4096x4096) ![128 * r.val, 0] S128x4096.size (out_inb r)).set from
    View.set_slice_whole main_v3 _, Rect.mem_set_unit, Fin.forall_fin_two]
  have h1 : (i 1).val < 4096 := (i 1).isLt
  show (128 * r.val ≤ (i 0).val ∧ (i 0).val < 128 * r.val + 128) ∧ (0 ≤ (i 1).val ∧ (i 1).val < 0 + 4096) ↔ _
  omega

theorem mem_slot (j : Fin 2) (i : S2x128x4096.Idx) : i ∈ (slotR j).set ↔ (i 0).val = j.val := by
  have hj := j.isLt
  rw [Rect.mem_set_unit, Fin.forall_fin_succ, Fin.forall_fin_two]
  have h1 : (i 1).val < 128 := (i 1).isLt
  have h2 : (i 2).val < 4096 := (i 2).isLt
  show (j.val ≤ (i 0).val ∧ (i 0).val < j.val + 1) ∧ (0 ≤ (i 1).val ∧ (i 1).val < 0 + 128)
    ∧ (0 ≤ (i 2).val ∧ (i 2).val < 0 + 4096) ↔ _
  omega

theorem number (n : ℕ) (h : n < 32) : ∃ r : Fin 32, r.val = n := ⟨⟨n, h⟩, rfl⟩

/-! ## Cutting and joining -/

variable {ℓ : Loc nD τ sig}

/-- A buffer cut into the pieces of a partition. -/
theorem cut (K : Fin 32 → Finset (Idx ℓ)) (S : Finset (Idx ℓ)) (f : Buf (Elt F) ℓ)
    (hd : ∀ r r', r ≠ r' → Disjoint (K r) (K r')) (hu : ∀ i, i ∈ S ↔ ∃ r, i ∈ K r) :
    (iprop(ℓ ↦[S]{fullShare} f) : sProp 𝕄) = bigSep Finset.univ fun r => ℓ ↦[K r]{fullShare} f := by
  rw [← pointsTo_biUnion Finset.univ K fun r _ r' _ h => hd r r' h]
  congr 1
  ext i
  rw [hu, Finset.mem_biUnion]
  exact ⟨fun ⟨r, h⟩ => ⟨r, Finset.mem_univ r, h⟩, fun ⟨r, _, h⟩ => ⟨r, h⟩⟩

/-- A buffer cut in two. -/
theorem cut2 (A B : Finset (Idx ℓ)) (f : Buf (Elt F) ℓ) (hd : Disjoint A B) (hu : ∀ i, i ∈ A ∪ B) :
    (iprop(ℓ ↦{fullShare} f) : sProp 𝕄) ⊣⊢ iprop((ℓ ↦[A]{fullShare} f) ∗ ℓ ↦[B]{fullShare} f) := by
  have e : (Finset.univ : Finset (Idx ℓ)) = A ∪ B := (Finset.eq_univ_of_forall hu).symm
  rw [e]
  exact pointsTo_union hd

theorem join2 (A B : Finset (Idx ℓ)) (f g : Buf (Elt F) ℓ) (hd : Disjoint A B) (hu : ∀ i, i ∈ A ∪ B) :
    iprop((ℓ ↦[A]{fullShare} f) ∗ ℓ ↦[B]{fullShare} g) ⊢ (iprop(∃ h, ℓ ↦{fullShare} h) : sProp 𝕄) := by
  classical
  have e : (Finset.univ : Finset (Idx ℓ)) = A ∪ B := (Finset.eq_univ_of_forall hu).symm
  rw [e]
  iintro H
  iexists _
  iapply (pointsTo_join hd) $$ H

variable (X : Dev nD → (main_v1 : Ref sig .tc).ty.Contents (Elt F)) (c : Dev nD)

/-! ### The device's block -/

/-- The rows of its block the device sends. -/
def sentRows : Finset S8192x4096.Idx := Finset.univ.filter fun i => (i 0).val / 4096 ≠ c.val / 8
/-- The rows it keeps. -/
def keptRows : Finset S8192x4096.Idx := Finset.univ.filter fun i => (i 0).val / 4096 = c.val / 8

theorem sent_cut : (iprop((c : Thread nD τ).loc main_v1 ↦[sentRows c]{fullShare} X c) : sProp 𝕄)
    = bigSep Finset.univ fun r : Fin 32 => (sentM xM c r).view.loc (c : Thread nD τ) ↦[(sentM xM c r).view.set]{fullShare} X c := by
  refine cut (ℓ := (c : Thread nD τ).loc main_v1) (fun r => (sentM xM c r).view.set) _ _ ?_ ?_
  · intro r r' h
    rw [Finset.disjoint_left]
    intro i hi hi'
    have hi := (mem_sent c r i).mp hi
    have hi' := (mem_sent c r' i).mp hi'
    have hc : c.val < 16 := c.isLt
    exact h (Fin.ext (by omega))
  · intro (i : S8192x4096.Idx)
    have h0 : (i 0).val < 8192 := (i 0).isLt
    have hc : c.val < 16 := c.isLt
    unfold sentRows
    rw [Finset.mem_filter]
    constructor
    · rintro ⟨-, h⟩
      obtain ⟨r, hr⟩ := number ((i 0).val / 128 % 32) (by omega)
      exact ⟨r, (mem_sent c r i).mpr (by omega)⟩
    · rintro ⟨r, h⟩
      have h := (mem_sent c r i).mp h
      have := r.isLt
      exact ⟨Finset.mem_univ i, by omega⟩

theorem kept_cut : (iprop((c : Thread nD τ).loc main_v1 ↦[keptRows c]{fullShare} X c) : sProp 𝕄)
    = bigSep Finset.univ fun r : Fin 32 => (keptM xM c r).view.loc (c : Thread nD τ) ↦[(keptM xM c r).view.set]{fullShare} X c := by
  refine cut (ℓ := (c : Thread nD τ).loc main_v1) (fun r => (keptM xM c r).view.set) _ _ ?_ ?_
  · intro r r' h
    rw [Finset.disjoint_left]
    intro i hi hi'
    have hi := (mem_kept c r i).mp hi
    have hi' := (mem_kept c r' i).mp hi'
    exact h (Fin.ext (by omega))
  · intro (i : S8192x4096.Idx)
    have h0 : (i 0).val < 8192 := (i 0).isLt
    have hc : c.val < 16 := c.isLt
    unfold keptRows
    rw [Finset.mem_filter]
    constructor
    · rintro ⟨-, h⟩
      obtain ⟨r, hr⟩ := number ((i 0).val / 128 % 32) (by omega)
      exact ⟨r, (mem_kept c r i).mpr (by omega)⟩
    · rintro ⟨r, h⟩
      have h := (mem_kept c r i).mp h
      have := r.isLt
      exact ⟨Finset.mem_univ i, by omega⟩

theorem rows_cut : (iprop((c : Thread nD τ).loc main_v1 ↦{fullShare} X c) : sProp 𝕄)
    ⊣⊢ iprop(((c : Thread nD τ).loc main_v1 ↦[sentRows c]{fullShare} X c)
      ∗ (c : Thread nD τ).loc main_v1 ↦[keptRows c]{fullShare} X c) := by
  refine cut2 (ℓ := (c : Thread nD τ).loc main_v1) _ _ _ ?_ ?_
  · rw [Finset.disjoint_left]
    intro i hi hi'
    exact (Finset.mem_filter.mp hi).2 (Finset.mem_filter.mp hi').2
  · intro i
    rw [Finset.mem_union]
    by_cases h : (i 0).val / 4096 = c.val / 8
    · exact .inr (Finset.mem_filter.mpr ⟨Finset.mem_univ i, h⟩)
    · exact .inl (Finset.mem_filter.mpr ⟨Finset.mem_univ i, h⟩)

/-- The device's block is the chunks it sends and those it keeps. -/
theorem block_open : (iprop((c : Thread nD τ).loc main_v1 ↦{fullShare} X c) : sProp 𝕄)
    ⊢ iprop(bigSep Finset.univ (fun r : Fin 32 => holds (sentM xM c r) c (sent X c r))
      ∗ bigSep Finset.univ (fun r : Fin 32 => holds (keptM xM c r) c (kept X c r))) := by
  refine (rows_cut X c).mp.trans ?_
  rw [sent_cut, kept_cut]
  exact BIClass.sep_mono (bigSep_mono fun r _ => holds_intro (sentM xM c r) c _ _ rfl)
    (bigSep_mono fun r _ => holds_intro (keptM xM c r) c _ _ rfl)

theorem block_close : iprop(bigSep Finset.univ (fun r : Fin 32 => holds (sentM xM c r) c (sent X c r))
      ∗ bigSep Finset.univ (fun r : Fin 32 => holds (keptM xM c r) c (kept X c r)))
    ⊢ (iprop((c : Thread nD τ).loc main_v1 ↦{fullShare} X c) : sProp 𝕄) := by
  refine BIBase.Entails.trans ?_ (rows_cut X c).mpr
  rw [sent_cut, kept_cut]
  exact BIClass.sep_mono (bigSep_mono fun r _ => holds_at (sentM xM c r) c _ _ rfl)
    (bigSep_mono fun r _ => holds_at (keptM xM c r) c _ _ rfl)

/-! ### The output -/

theorem out_cut (f : Buf (Elt F) ((c : Thread nD τ).loc main_v3)) : (iprop((c : Thread nD τ).loc main_v3 ↦{fullShare} f) : sProp 𝕄)
    = bigSep Finset.univ fun r : Fin 32 => (outM oM r).view.loc (c : Thread nD τ) ↦[(outM oM r).view.set]{fullShare} f := by
  refine cut (ℓ := (c : Thread nD τ).loc main_v3) (fun r => (outM oM r).view.set) _ _ ?_ ?_
  · intro r r' h
    rw [Finset.disjoint_left]
    intro i hi hi'
    have hi := (mem_out r i).mp hi
    have hi' := (mem_out r' i).mp hi'
    exact h (Fin.ext (by omega))
  · intro (i : S4096x4096.Idx)
    have h0 : (i 0).val < 4096 := (i 0).isLt
    obtain ⟨r, hr⟩ := number ((i 0).val / 128) (by omega)
    exact ⟨fun _ => ⟨r, (mem_out r i).mpr hr.symm⟩, fun _ => Finset.mem_univ _⟩

theorem out_open (f : Buf (Elt F) ((c : Thread nD τ).loc main_v3)) :
    (iprop((c : Thread nD τ).loc main_v3 ↦{fullShare} f) : sProp 𝕄)
      ⊢ bigSep Finset.univ (fun r : Fin 32 => room (outM oM r) c) := by
  rw [out_cut]
  exact bigSep_mono fun r _ => room_intro (outM oM r) c f

theorem out_close (M : Fin 32 → Mat F) (f : Buf (Elt F) ((c : Thread nD τ).loc main_v3))
    (h : ∀ r, (outM oM r).view.read (Elt F) f = M r) :
    bigSep Finset.univ (fun r : Fin 32 => holds (outM oM r) c (M r))
      ⊢ (iprop((c : Thread nD τ).loc main_v3 ↦{fullShare} f) : sProp 𝕄) := by
  rw [out_cut]
  exact bigSep_mono fun r _ => holds_at (outM oM r) c (M r) f (h r)

/-- The output whose chunks are `M`. -/
def whole (M : Fin 32 → Mat F) : (main_v3 : Ref sig .tc).ty.Contents (Elt F) := fun i : S4096x4096.Idx =>
  M ⟨(i 0).val / 128, by have h : (i 0).val < 4096 := (i 0).isLt; omega⟩
    (Fin.cons (⟨(i 0).val % 128, Nat.mod_lt _ (by decide)⟩ : Fin 128) (Fin.cons (⟨(i 1).val, (i 1).isLt⟩ : Fin 4096) finZeroElim))

theorem whole_read (M : Fin 32 → Mat F) (r : Fin 32) : (outM oM r).view.read (Elt F) (whole M) = M r := by
  funext x
  have hr := r.isLt
  have h0 : (x 0).val < 128 := (x 0).isLt
  rw [View.read_apply]
  show whole M ((outM oM r).view.emb x) = M r x
  have e0 : (((outM oM r).view.emb x : S4096x4096.Idx) 0).val = 128 * r.val + 1 * (x 0).val := rfl
  have e1 : (((outM oM r).view.emb x : S4096x4096.Idx) 1).val = 0 + 1 * (x 1).val := rfl
  unfold whole
  congr 1
  · congr 1
    show (((outM oM r).view.emb x : S4096x4096.Idx) 0).val / 128 = r.val
    rw [e0]; omega
  · funext a
    apply Fin.ext
    revert a
    rw [Fin.forall_fin_two]
    constructor
    · show (((outM oM r).view.emb x : S4096x4096.Idx) 0).val % 128 = (x 0).val
      rw [e0]; omega
    · show (((outM oM r).view.emb x : S4096x4096.Idx) 1).val = (x 1).val
      rw [e1]; omega

/-! ### The two-slot buffers -/

theorem slots_disjoint : Disjoint (slotR 0).set (slotR 1).set := by
  rw [Finset.disjoint_left]
  intro i hi hi'
  have hi := (mem_slot 0 i).mp hi
  have hi' := (mem_slot 1 i).mp hi'
  exact absurd (hi.symm.trans hi') (by decide)

theorem slots_all (i : S2x128x4096.Idx) : i ∈ (slotR 0).set ∪ (slotR 1).set := by
  have h : (i 0).val < 2 := (i 0).isLt
  rw [Finset.mem_union, mem_slot, mem_slot]
  show (i 0).val = 0 ∨ (i 0).val = 1
  omega

theorem two_open (A B : Finset (Idx ℓ)) (hd : Disjoint A B) (hu : ∀ i, i ∈ A ∪ B) :
    (iprop(∃ f : Buf (Elt F) ℓ, ℓ ↦{fullShare} f) : sProp 𝕄)
      ⊢ iprop((∃ f : Buf (Elt F) ℓ, ℓ ↦[A]{fullShare} f) ∗ ∃ f : Buf (Elt F) ℓ, ℓ ↦[B]{fullShare} f) := by
  iintro ⟨%f, H⟩
  ihave ⟨HA, HB⟩ := (cut2 A B f hd hu).mp $$ H
  isplitl [HA]
  · iexists f; iexact HA
  · iexists f; iexact HB

theorem two_close (A B : Finset (Idx ℓ)) (hd : Disjoint A B) (hu : ∀ i, i ∈ A ∪ B) :
    iprop((∃ f : Buf (Elt F) ℓ, ℓ ↦[A]{fullShare} f) ∗ ∃ f : Buf (Elt F) ℓ, ℓ ↦[B]{fullShare} f)
      ⊢ (iprop(∃ f : Buf (Elt F) ℓ, ℓ ↦{fullShare} f) : sProp 𝕄) := by
  iintro ⟨⟨%f, HA⟩, %g, HB⟩
  iapply (join2 A B f g hd hu)
  isplitl [HA]; · iexact HA
  iexact HB

theorem av_set (j : Fin 2) : (slotM avM j).view.set = (slotR j).set :=
  (slot_set avM j).trans (View.set_slice_whole cc0_scratch0 _)
theorem bv_set (j : Fin 2) : (slotM bvM j).view.set = (slotR j).set :=
  (slot_set bvM j).trans (View.set_slice_whole cc0_scratch1 _)
theorem ov_set (j : Fin 2) : (slotM ovM j).view.set = (slotR j).set :=
  (slot_set ovM j).trans (View.set_slice_whole cc0_scratch2 _)

theorem av_disjoint : Disjoint (slotM avM 0).view.set (slotM avM 1).view.set := by
  rw [av_set, av_set]; exact slots_disjoint
theorem bv_disjoint : Disjoint (slotM bvM 0).view.set (slotM bvM 1).view.set := by
  rw [bv_set, bv_set]; exact slots_disjoint
theorem ov_disjoint : Disjoint (slotM ovM 0).view.set (slotM ovM 1).view.set := by
  rw [ov_set, ov_set]; exact slots_disjoint
theorem av_all : ∀ i, i ∈ (slotM avM 0).view.set ∪ (slotM avM 1).view.set := by
  rw [av_set, av_set]; exact slots_all
theorem bv_all : ∀ i, i ∈ (slotM bvM 0).view.set ∪ (slotM bvM 1).view.set := by
  rw [bv_set, bv_set]; exact slots_all
theorem ov_all : ∀ i, i ∈ (slotM ovM 0).view.set ∪ (slotM ovM 1).view.set := by
  rw [ov_set, ov_set]; exact slots_all

theorem av_open : (iprop(∃ f : Buf (Elt F) ((c : Thread nD τ).loc cc0_scratch0), (c : Thread nD τ).loc cc0_scratch0 ↦{fullShare} f) : sProp 𝕄)
    ⊢ iprop(room (slotM avM 0) c ∗ room (slotM avM 1) c) := two_open _ _ av_disjoint av_all
theorem bv_open : (iprop(∃ f : Buf (Elt F) ((c : Thread nD τ).loc cc0_scratch1), (c : Thread nD τ).loc cc0_scratch1 ↦{fullShare} f) : sProp 𝕄)
    ⊢ iprop(room (slotM bvM 0) c ∗ room (slotM bvM 1) c) := two_open _ _ bv_disjoint bv_all
theorem ov_open : (iprop(∃ f : Buf (Elt F) ((c : Thread nD τ).loc cc0_scratch2), (c : Thread nD τ).loc cc0_scratch2 ↦{fullShare} f) : sProp 𝕄)
    ⊢ iprop(room (slotM ovM 0) c ∗ room (slotM ovM 1) c) := two_open _ _ ov_disjoint ov_all
theorem av_close : iprop(room (slotM avM 0) c ∗ room (slotM avM 1) c)
    ⊢ (iprop(∃ f : Buf (Elt F) ((c : Thread nD τ).loc cc0_scratch0), (c : Thread nD τ).loc cc0_scratch0 ↦{fullShare} f) : sProp 𝕄) :=
  two_close _ _ av_disjoint av_all
theorem bv_close : iprop(room (slotM bvM 0) c ∗ room (slotM bvM 1) c)
    ⊢ (iprop(∃ f : Buf (Elt F) ((c : Thread nD τ).loc cc0_scratch1), (c : Thread nD τ).loc cc0_scratch1 ↦{fullShare} f) : sProp 𝕄) :=
  two_close _ _ bv_disjoint bv_all
theorem ov_close : iprop(room (slotM ovM 0) c ∗ room (slotM ovM 1) c)
    ⊢ (iprop(∃ f : Buf (Elt F) ((c : Thread nD τ).loc cc0_scratch2), (c : Thread nD τ).loc cc0_scratch2 ↦{fullShare} f) : sProp 𝕄) :=
  two_close _ _ ov_disjoint ov_all

end Cert.KernelIdeal.Rms
-- ==== Proof.KI.Region.lean ====
/- The kernel from its cells unopened and its buffers whole to its cells closed and its buffers whole again. -/
module

public import proofs.«01_k».proof.Proof.KI.Pieces
public import Idealize.ShloMosaic.Lib.Rounds.Family
public import Idealize.ShloMosaic.Harness.Basic

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke
open Cert.KernelIdeal.Facts₀ Cert.KernelIdeal.Facts

variable {F : FTy → Type} [FloatOps F] [Facts]

local notation "𝕄" => MT nD τ sig Unit (Elt F) ℕ UU ℕ

/-! ## The kernel's own semaphores -/

abbrev Own : Type := Fin 32 ⊕ Fin 32 ⊕ Fin 2 ⊕ Fin 2 ⊕ Fin 2

def osem : Own → SemLoc sig :=
  Sum.elim (fun r => .dma (sendS r)) (Sum.elim (fun r => .dma (recvS r))
    (Sum.elim (fun j => .dma (aS j)) (Sum.elim (fun j => .dma (bS j)) fun j => .dma (oS j))))

theorem own_facts : Pipeline.OwnSemFacts spec0 osem := by decide +kernel

/-- The counters of the slots' copies. -/
def slotSems (c : Dev nD) : sProp 𝕄 :=
  iprop((semVal ((c : Thread nD τ), .dma (aS 0)) 0 ∗ semVal ((c : Thread nD τ), .dma (aS 1)) 0)
    ∗ (semVal ((c : Thread nD τ), .dma (bS 0)) 0 ∗ semVal ((c : Thread nD τ), .dma (bS 1)) 0)
    ∗ (semVal ((c : Thread nD τ), .dma (oS 0)) 0 ∗ semVal ((c : Thread nD τ), .dma (oS 1)) 0))

theorem ownSems_eq (c : Dev nD) : (Pipeline.ownSems0 osem c : sProp 𝕄)
    = iprop(bigSep Finset.univ (fun r : Fin 32 => semVal (sendCell c r) 0)
      ∗ bigSep Finset.univ (fun r : Fin 32 => semVal (recvCell c r) 0) ∗ slotSems c) := by
  unfold Pipeline.ownSems0 slotSems
  rw [bigSep_univ_sum, bigSep_univ_sum, bigSep_univ_sum, bigSep_univ_sum, bigSep_fin_two, bigSep_fin_two, bigSep_fin_two]
  rfl

variable (X : Dev nD → (main_v1 : Ref sig .tc).ty.Contents (Elt F)) (K : GSem nD τ sig → ℕ) (c : Dev nD)

/-! ## Opening and closing the cells -/

/-- What the launch leaves with device `c`. -/
def linear : sProp 𝕄 :=
  iprop(atPos ER (barCell c) 0 ∅ 0
    ∗ (bigSep Finset.univ (fun r : Fin 32 => openTok ER (sendCell c r)) ∗ bigSep Finset.univ (fun r : Fin 32 => openTok ER (recvCell c r)))
    ∗ (dutyTok ER (barCell (mate c)) 0 () ∗ bigSep Finset.univ (fun r : Fin 32 => dutyTok ER (sendCell c r) 0 ())
      ∗ bigSep Finset.univ (fun r : Fin 32 => dutyTok ER (recvCell (mate c) r) 0 ())))

def ghost : sProp 𝕄 := iprop(invs X K c ∗ reached ER (barCell (mate c)) 0 ∗ linear c)

/-- The credits device `c` waits with. -/
def credits : sProp 𝕄 :=
  iprop(cred (tallyAt (barCell c) () 1) ∗ bigSep Finset.univ (fun r : Fin 32 => cred (tallyAt (recvCell c r) () N)))

/-- All of the protocol that the body takes. -/
def ready : sProp 𝕄 :=
  iprop(invs X K c ∗ (atPos ER (barCell c) 0 ∅ 0 ∗ cred (tallyAt (barCell c) () 1) ∗ levAts L lv)
    ∗ (reached ER (barCell (mate c)) 0 ∗ dutyTok ER (barCell (mate c)) 0 ())
    ∗ bigSep Finset.univ (fun r : Fin 32 => reached ER (recvCell c r) 0)
    ∗ (bigSep Finset.univ (fun r : Fin 32 => iprop(dutyTok ER (sendCell c r) 0 () ∗ reached ER (sendCell c r) 0))
      ∗ bigSep Finset.univ (fun r : Fin 32 => dutyTok ER (recvCell (mate c) r) 0 ())
      ∗ bigSep Finset.univ (fun r : Fin 32 => atPos ER (sendCell c r) 0 ∅ 0))
    ∗ bigSep Finset.univ (fun r : Fin 32 => toRecv c r))

theorem send_invs : iprop(invs X K c ∗ bigSep Finset.univ (fun r : Fin 32 => openTok ER (sendCell c r)))
    ⊢ (bigSep Finset.univ fun r : Fin 32 => iprop(cellInv ER (Rd X) (K (sendCell c r)) (sendCell c r) ∗ openTok ER (sendCell c r)) : sProp 𝕄) :=
  bigSep_with_persistent fun r _ => by
    iintro ⟨#HI, Ho⟩
    ihave H := (invs_chunk X K c r) $$ HI
    unfold chunkInvs
    icases H with ⟨H, -⟩
    isplitl [H]; · iexact H
    iexact Ho

theorem recv_invs : iprop(invs X K c ∗ bigSep Finset.univ (fun r : Fin 32 => openTok ER (recvCell c r)))
    ⊢ (bigSep Finset.univ fun r : Fin 32 => iprop(cellInv ER (Rd X) (K (recvCell c r)) (recvCell c r) ∗ openTok ER (recvCell c r)) : sProp 𝕄) :=
  bigSep_with_persistent fun r _ => by
    iintro ⟨#HI, Ho⟩
    ihave H := (invs_chunk X K c r) $$ HI
    unfold chunkInvs
    icases H with ⟨-, H, -⟩
    isplitl [H]; · iexact H
    iexact Ho

theorem opening :
    iprop(ghost X K c ∗ credits c ∗ bigSep Finset.univ (fun r : Fin 32 => semVal (sendCell c r) 0)
        ∗ bigSep Finset.univ (fun r : Fin 32 => semVal (recvCell c r) 0) ∗ levAts L lv)
      ⊢ (|={Set.univ}=> ready X K c : sProp 𝕄) := by
  unfold ghost linear credits ready
  iintro ⟨⟨#HI, Hrb, Hat, ⟨HoS, HoV⟩, HtB, HtS, HtV⟩, ⟨HcB, HcV⟩, HsS, HsV, Hlev⟩
  ihave HiS := (send_invs X K c) $$ [HoS]
  · isplitr; · iexact HI
    iexact HoS
  imod (cells_open ER (Rd X) Finset.univ (fun r : Fin 32 => sendCell c r) (fun r => K (sendCell c r)) (Es := Set.univ)
    (fun _ _ => Set.mem_univ _)) $$ [HiS HsS] with HS
  · isplitl [HiS]; · iexact HiS
    iexact HsS
  ihave HiV := (recv_invs X K c) $$ [HoV]
  · isplitr; · iexact HI
    iexact HoV
  imod (cells_open ER (Rd X) Finset.univ (fun r : Fin 32 => recvCell c r) (fun r => K (recvCell c r)) (Es := Set.univ)
    (fun _ _ => Set.mem_univ _)) $$ [HiV HsV] with HV
  · isplitl [HiV]; · iexact HiV
    iexact HsV
  ihave ⟨HaS, HrS⟩ := bigSep_unpair $$ HS
  ihave ⟨HaV, HrV⟩ := bigSep_unpair $$ HV
  imodintro
  isplitr; · iexact HI
  isplitl [Hat HcB Hlev]
  · isplitl [Hat]; · iexact Hat
    isplitl [HcB]; · iexact HcB
    iexact Hlev
  isplitl [Hrb HtB]
  · isplitl [Hrb]; · iexact Hrb
    iexact HtB
  isplitl [HrV]; · iexact HrV
  isplitl [HtS HrS HtV HaS]
  · isplitl [HtS HrS]
    · iapply bigSep_pair
      isplitl [HtS]; · iexact HtS
      iexact HrS
    isplitl [HtV]; · iexact HtV
    iexact HaS
  unfold toRecv
  iapply bigSep_pair
  isplitl [HcV]; · iexact HcV
  iexact HaV

theorem close_send : iprop(invs X K c ∗ bigSep Finset.univ (fun r : Fin 32 => atPos ER (sendCell c r) (0 + 1) ∅ 0))
    ⊢ (|={Set.univ}=> bigSep Finset.univ fun r : Fin 32 => semVal (sendCell c r) 0 : sProp 𝕄) :=
  (bigSep_with_persistent (Ψ := fun r : Fin 32 => iprop(|={Set.univ}=> semVal (sendCell c r) 0)) fun r _ => by
    iintro ⟨#HI, Ha⟩
    ihave H := (invs_chunk X K c r) $$ HI
    unfold chunkInvs
    icases H with ⟨H, -⟩
    iapply (close X (K (sendCell c r)) (sendCell c r))
    isplitl [H]; · iexact H
    iexact Ha).trans (bigSep_fupd _ _)

theorem close_recv : iprop(invs X K c ∗ bigSep Finset.univ (fun r : Fin 32 => received c r))
    ⊢ (|={Set.univ}=> bigSep Finset.univ fun r : Fin 32 => semVal (recvCell c r) 0 : sProp 𝕄) :=
  (bigSep_with_persistent (Ψ := fun r : Fin 32 => iprop(|={Set.univ}=> semVal (recvCell c r) 0)) fun r _ => by
    unfold received
    iintro ⟨#HI, Ha⟩
    ihave H := (invs_chunk X K c r) $$ HI
    unfold chunkInvs
    icases H with ⟨-, H, -⟩
    iapply (close X (K (recvCell c r)) (recvCell c r))
    isplitl [H]; · iexact H
    iexact Ha).trans (bigSep_fupd _ _)

theorem close_bar : iprop(invs X K c ∗ atPos ER (barCell c) (0 + 1) ∅ 0) ⊢ (|={Set.univ}=> semVal (barCell c) 0 : sProp 𝕄) := by
  unfold invs
  iintro ⟨⟨⟨H, -⟩, -⟩, Ha⟩
  iapply (close X (K (barCell c)) (barCell c))
  isplitl [H]; · iexact H
  iexact Ha

/-! ## The kernel -/

/-- The buffers of the scratch. -/
def scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ ∃ f : Buf (Elt F) ((c : Thread nD τ).loc cc0_scratch2), (c : Thread nD τ).loc cc0_scratch2 ↦{fullShare} f)

/-- The output of device `c`, given the scale vector. -/
def output (w : Vec F S1x4096 .f32) : (main_v3 : Ref sig .tc).ty.Contents (Elt F) :=
  whole fun r => norm (kept X c r) (sent X (mate c) r) w

def before : sProp 𝕄 :=
  iprop(((c : Thread nD τ).loc main_v1 ↦{fullShare} X c)
    ∗ (∃ f : Buf (Elt F) ((c : Thread nD τ).loc main_v3), (c : Thread nD τ).loc main_v3 ↦{fullShare} f)
    ∗ scratch c ∗ slotSems c ∗ ∃ K, ready X K c)

def after (w : Vec F S1x4096 .f32) : sProp 𝕄 :=
  iprop(((c : Thread nD τ).loc main_v1 ↦{fullShare} X c) ∗ ((c : Thread nD τ).loc main_v3 ↦{fullShare} output X c w)
    ∗ scratch c ∗ Pipeline.ownSems0 osem c ∗ semVal (barCell c) 0)

variable (g : Memref sig .tc .vmem S1x4096 .f32) (fg : Buf (Elt F) (g.view.loc (c : Thread nD τ)))

theorem frees_open : iprop(scratch c ∗ slotSems c) ⊢ (iprop(free c 0 ∗ free c 1 ∗ oFree c 0 ∗ oFree c 1) : sProp 𝕄) := by
  unfold scratch slotSems free oFree
  iintro ⟨⟨HA, HB, HO⟩, ⟨Ha0, Ha1⟩, ⟨Hb0, Hb1⟩, Ho0, Ho1⟩
  ihave ⟨HA0, HA1⟩ := (av_open c) $$ HA
  ihave ⟨HB0, HB1⟩ := (bv_open c) $$ HB
  ihave ⟨HO0, HO1⟩ := (ov_open c) $$ HO
  isplitl [HA0 HB0 Ha0 Hb0]
  · isplitl [HA0]; · iexact HA0
    isplitl [HB0]; · iexact HB0
    isplitl [Ha0]; · iexact Ha0
    iexact Hb0
  isplitl [HA1 HB1 Ha1 Hb1]
  · isplitl [HA1]; · iexact HA1
    isplitl [HB1]; · iexact HB1
    isplitl [Ha1]; · iexact Ha1
    iexact Hb1
  isplitl [HO0 Ho0]
  · isplitl [HO0]; · iexact HO0
    iexact Ho0
  · isplitl [HO1]; · iexact HO1
    iexact Ho1

theorem frees_close : iprop(free c 0 ∗ free c 1 ∗ oFree c 0 ∗ oFree c 1) ⊢ (iprop(scratch c ∗ slotSems c) : sProp 𝕄) := by
  unfold scratch slotSems free oFree
  iintro ⟨⟨HA0, HB0, Ha0, Hb0⟩, ⟨HA1, HB1, Ha1, Hb1⟩, ⟨HO0, Ho0⟩, HO1, Ho1⟩
  isplitl [HA0 HA1 HB0 HB1 HO0 HO1]
  · isplitl [HA0 HA1]
    · iapply (av_close c)
      isplitl [HA0]; · iexact HA0
      iexact HA1
    isplitl [HB0 HB1]
    · iapply (bv_close c)
      isplitl [HB0]; · iexact HB0
      iexact HB1
    · iapply (ov_close c)
      isplitl [HO0]; · iexact HO0
      iexact HO1
  isplitl [Ha0 Ha1]
  · isplitl [Ha0]; · iexact Ha0
    iexact Ha1
  isplitl [Hb0 Hb1]
  · isplitl [Hb0]; · iexact Hb0
    iexact Hb1
  · isplitl [Ho0]; · iexact Ho0
    iexact Ho1

theorem runs_kernel (w : Vec F S1x4096 .f32) (hw : (g.access gR).read (Elt F) fg = w) (Kt : PUnit → sProp 𝕄) :
    iprop(before X c ∗ (∃ W, owes (c : Thread nD τ) (O₀ c) W) ∗ scale c g fg
        ∗ ((after X c w ∗ scale c g fg ∗ idle c) -∗ Kt ⟨⟩))
      ⊢ runs c (body xM g oM avM bvM ovM cc0_scratch3 cc0_scratch4 cc0_scratch5 cc0_scratch6 cc0_scratch7) Kt := by
  unfold before ready
  iintro ⟨⟨Hx, ⟨%fo, Ho⟩, Hscr, Hsems, ⟨%K, #HI, Hbar, Hmate, HrV, ⟨HtS, HtV, HaS⟩, Hrecv⟩⟩, HO, Hg, Hk⟩
  ihave ⟨Hsent, Hkept⟩ := (block_open X c) $$ Hx
  ihave Hout := (out_open c fo) $$ Ho
  ihave Hfree := (frees_open c) $$ [Hscr Hsems]
  · isplitl [Hscr]; · iexact Hscr
    iexact Hsems
  unfold runs
  iapply (wp_fupd _ _ _ _)
  iapply (runs_body X K c g fg _)
  isplitr [Hk]
  · unfold bodyPre toGreet toStart
    isplitr; · iexact HI
    isplitl [Hbar Hmate HrV Hout HO]
    · isplitl [Hbar]; · iexact Hbar
      isplitl [Hmate]; · iexact Hmate
      isplitl [Hout]; · iexact Hout
      isplitl [HrV]; · iexact HrV
      iexact HO
    isplitl [Hsent HtS HtV HaS]
    · isplitl [Hsent]; · iexact Hsent
      isplitl [HtS]; · iexact HtS
      isplitl [HtV]; · iexact HtV
      iexact HaS
    isplitl [Hrecv Hkept]
    · iapply bigSep_pair
      isplitl [Hrecv]; · iexact Hrecv
      iexact Hkept
    isplitl [Hfree]; · iexact Hfree
    iexact Hg
  unfold bodyPost ended
  iintro ⟨Hbar, Hrec, Hend, Hkept, Hout, Hfree, Hg, Hi⟩
  ihave ⟨HaS, Hsent⟩ := bigSep_unpair $$ Hend
  imod (close_bar X K c) $$ [Hbar] with Hbar
  · isplitr; · iexact HI
    iexact Hbar
  imod (close_send X K c) $$ [HaS] with HsS
  · isplitr; · iexact HI
    iexact HaS
  imod (close_recv X K c) $$ [Hrec] with HsV
  · isplitr; · iexact HI
    iexact Hrec
  imodintro
  iapply Hk
  ihave ⟨Hscr, Hsems⟩ := (frees_close c) $$ Hfree
  unfold after
  isplitr [Hg Hi]
  · isplitl [Hsent Hkept]
    · iapply (block_close X c)
      isplitl [Hsent]; · iexact Hsent
      iexact Hkept
    isplitl [Hout]
    · iapply (out_close c (fun r => result X c g fg r) (output X c w) (fun r => by
        unfold output result; rw [whole_read, hw]))
      iexact Hout
    isplitl [Hscr]; · iexact Hscr
    isplitl [HsS HsV Hsems]
    · iapply (Entails.of_eq (ownSems_eq c).symm)
      isplitl [HsS]; · iexact HsS
      isplitl [HsV]; · iexact HsV
      iexact Hsems
    iexact Hbar
  isplitl [Hg]; · iexact Hg
  iexact Hi

end Cert.KernelIdeal.Rms
-- ==== Proof.KI.Segment.lean ====
/- The kernel's region as a segment of the program: the contents of the buffers before and after it, the invariant of
   its one grid point, and what enters and leaves it. -/
module

public import proofs.«01_k».proof.Proof.KI.Region
public import proofs.«01_k».proof.Proof.Gen.KernelIdeal.Frame
public import Idealize.ShloMosaic.Lib.Pipeline.Regions
public import Idealize.ShloMosaic.Lib.Pipeline.RegionTalk
public import Idealize.ShloMosaic.Lib.StableHlo

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke
open Idealize.ShloMosaic.Pipeline (Dat BodyObligation)
open Cert.KernelIdeal.Facts₀ Cert.KernelIdeal.Facts

variable {F : FTy → Type} [FloatOps F] [Facts]

local notation "𝕄" => MT nD τ sig Unit (Elt F) ℕ UU ℕ

variable (m : (ℓ : Loc nD τ sig) → Buf (Elt F) ℓ)

/-! ## The buffers -/

/-- At launch, -/
def V₀ (c : Dev nD) : Valuation τ sig (Elt F) := fun b => m (c, b)
/-- before the region, -/
def V₁ (c : Dev nD) : Valuation τ sig (Elt F) := StableHlo.after Gen.hostOps0 (V₀ m c)
/-- the partial sums of each device as the kernel reads them, -/
def part (c : Dev nD) : (main_v1 : Ref sig .tc).ty.Contents (Elt F) := V₁ m c (Proc.devRef .tc main_v1)
/-- the scale vector, -/
def weight (c : Dev nD) : Vec F S1x4096 .f32 := Gen.iblk m c 0 Gen.t0_0
/-- and after the region. -/
def V₂ (c : Dev nD) : Valuation τ sig (Elt F) :=
  Function.update (V₁ m c) (Proc.devRef .tc main_v3) (output (part m) c (weight m c))

theorem V₂_out (c : Dev nD) : V₂ m c (Proc.devRef .tc main_v3) = output (part m) c (weight m c) := Function.update_self ..
theorem V₂_of_ne (c : Dev nD) {b : DevRef τ sig} (h : b ≠ Proc.devRef .tc main_v3) : V₂ m c b = V₁ m c b :=
  Function.update_of_ne h ..

def bufs : Finset (DevRef τ sig) := (StableHlo.tcRefs τ sig).filter fun b => ¬ b.isScoped
def own2 : Finset (DevRef τ sig) := {Proc.devRef .tc main_v1, Proc.devRef .tc main_v3}
def rest : Finset (DevRef τ sig) := bufs \ Pipeline.arrRefs (τ := τ) spec0

theorem arr_sub : Pipeline.arrRefs (τ := τ) spec0 ⊆ bufs := by decide +kernel
theorem own2_sub : own2 ⊆ rest := by decide +kernel

theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) rest W) :=
  StableHlo.held_sub_split _ arr_sub W

theorem own2_eq (c : Dev nD) (W : Valuation τ sig (Elt F)) : (StableHlo.held (c : Thread nD τ) own2 W : sProp 𝕄)
    = iprop(((c : Thread nD τ).loc main_v1 ↦{fullShare} W (Proc.devRef .tc main_v1))
      ∗ ((c : Thread nD τ).loc main_v3 ↦{fullShare} W (Proc.devRef .tc main_v3))) := by
  unfold StableHlo.held
  rw [bigSep_eq_bigSepL_of_eq [Proc.devRef .tc main_v1, Proc.devRef .tc main_v3] (by decide) (by decide)]
  rfl

/-! ## The invariant of the region -/

def Φ (c : Dev nD) (n : ℕ) : sProp 𝕄 :=
  if n = 0 then iprop((∃ r, prngReg c r) ∗ before (part m) c) else iprop((∃ r, prngReg c r) ∗ after (part m) c (weight m c))

/-- What the device owes before and after its one point. -/
def due (c : Dev nD) (n : ℕ) : CellTallies nD τ sig Unit := if n = 0 then O₀ c else 0
theorem due_first (c : Dev nD) : due c 0 = O₀ c := if_pos rfl
theorem due_last (c : Dev nD) : due c 1 = 0 := if_neg Nat.one_ne_zero

def dat (c : Dev nD) : Dat τ (Elt F) Unit ℕ UU ℕ cfg0 c where
  A w := Gen.V m c (Pipeline.arrRef spec0 w)
  after := fun | 0 => fun t => Gen.iblk m c 0 t | ⟨_ + 1, h⟩ => absurd h (Nat.not_lt.2 (Nat.le_add_left _ _))
  Φ t := Φ m c t.val
  q _ := fullShare
  owed t := due c t.val

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem Φ_first (c : Dev nD) : Φ m c 0 = iprop((∃ r, prngReg c r) ∗ before (part m) c) := if_pos rfl
theorem Φ_last (c : Dev nD) : Φ m c 1 = iprop((∃ r, prngReg c r) ∗ after (part m) c (weight m c)) := if_neg Nat.one_ne_zero

theorem found (c : Dev nD) (t : Fin cfg0.N) (d) : (dat m c).before 0 t d = Gen.iblk m c 0 t :=
  ((dat m c).before_in_eq_fetched 0 rfl (fun _ => rfl) (fun _ _ _ => rfl)
    (fun t => by unfold Dat.blockOf; rfl) t d).trans (by unfold Dat.fetched Dat.blockOf; rfl)

theorem gR_read (g : Memref sig .tc .vmem S1x4096 .f32) (f : g.view.ty.Contents (Elt F)) :
    (g.access gR).read (Elt F) f = g.view.read (Elt F) f := by
  funext x
  show g.view.read (Elt F) f (gR.emb x) = _
  congr 1
  funext a
  apply Fin.ext
  show gR.off a + gR.stride a * (x a).val = (x a).val
  fin_cases a <;> simp [gR, Rect.unit]

theorem owes_first (c : Dev nD) : ((dat (F := F) m c).owesAt () Gen.t0_0.castSucc : sProp 𝕄) ⊢ iprop(∃ W, owes (c : Thread nD τ) (O₀ c) W) := by
  unfold Dat.owesAt Pipeline.owesWithin
  rw [show (dat (F := F) m c).owed Gen.t0_0.castSucc = O₀ c from due_first c]
  iintro ⟨%W, -, HO⟩
  iexists W
  iexact HO

theorem owes_last (c : Dev nD) : (idle c : sProp 𝕄) ⊢ (dat (F := F) m c).owesAt () Gen.t0_0.succ := by
  unfold Dat.owesAt Pipeline.owesWithin Dat.bound idle
  rw [show (dat (F := F) m c).owed Gen.t0_0.succ = 0 from due_last c]
  iintro ⟨%W, HO⟩
  iexists W
  isplitr
  · ipureintro; exact fun _ _ => Or.inl trivial
  iexact HO

theorem body_row (c : Dev nD) : (defs₀ (F := F) .tc cfg0.body (cfg0.bodyArgs Gen.t0_0 (cfg0.slots Gen.t0_0)))
    = body xM (win0_0.stage (cfg0.slots Gen.t0_0 0)) oM avM bvM ovM cc0_scratch3 cc0_scratch4 cc0_scratch5 cc0_scratch6 cc0_scratch7 :=
  (show _ = Gen.bodyAt0 Gen.t0_0 from rfl).trans (body_eq ..)

/-- The one point, for whatever program `prog` the kernel's lemma is about. -/
theorem point (c : Dev nD) (prog : BProg (F := F))
    (hrun : ∀ (fg : Buf (Elt F) ((win0_0.stage (cfg0.slots Gen.t0_0 0)).view.loc (c : Thread nD τ))) (w : Vec F S1x4096 .f32),
      ((win0_0.stage (cfg0.slots Gen.t0_0 0)).access gR).read (Elt F) fg = w → ∀ Kt : PUnit → sProp 𝕄,
      iprop(before (part m) c ∗ (∃ W, owes (c : Thread nD τ) (O₀ c) W) ∗ scale c (win0_0.stage (cfg0.slots Gen.t0_0 0)) fg
        ∗ ((after (part m) c w ∗ scale c (win0_0.stage (cfg0.slots Gen.t0_0 0)) fg ∗ idle c) -∗ Kt ⟨⟩))
      ⊢ wp frame (wpE defs₀ 𝒱₀ c none) Set.univ prog Kt) :
    iprop(((∃ r, prngReg c r) ∗ before (part m) c) ∗ (dat (F := F) m c).owesAt () Gen.t0_0.castSucc
        ∗ ∃ d, owns c (win0_0.stage (cfg0.slots Gen.t0_0 0)) fullShare ((dat m c).before 0 Gen.t0_0 d))
      ⊢ wp frame (wpE defs₀ 𝒱₀ c none) Set.univ prog fun _ =>
        iprop(((∃ r, prngReg c r) ∗ after (part m) c (weight m c)) ∗ (dat (F := F) m c).owesAt () Gen.t0_0.succ
          ∗ owns c (win0_0.stage (cfg0.slots Gen.t0_0 0)) fullShare (weight m c)) := by
  unfold owns
  iintro ⟨⟨Hp, Hb⟩, HO, ⟨%d, %f, %hf, Hg⟩⟩
  ihave HO := (owes_first m c) $$ HO
  have hf' : (win0_0.stage (cfg0.slots Gen.t0_0 0)).view.read (Elt F) f = weight m c := hf.trans (found m c Gen.t0_0 d)
  iapply (hrun f (weight m c) ((gR_read _ f).trans hf') _)
  isplitl [Hb]; · iexact Hb
  isplitl [HO]; · iexact HO
  isplitl [Hg]; · unfold scale; iexact Hg
  iintro ⟨Ha, Hg, Hi⟩
  isplitl [Hp Ha]
  · isplitl [Hp]; · iexact Hp
    iexact Ha
  isplitl [Hi]; · iapply (owes_last m c); iexact Hi
  iexists f
  isplitr
  · ipureintro; exact hf'
  unfold scale
  iexact Hg

theorem obligation (c : Dev nD) : BodyObligation (dat m c) defs₀ 𝒱₀ () Set.univ := fun t => by
  obtain rfl := Gen.fin_N0 t
  rw [Gen.bigSep_W0, Gen.bigSep_W0, body_row c]
  have hrun := runs_kernel (part m) c (win0_0.stage (cfg0.slots Gen.t0_0 0))
  revert hrun
  generalize body (F := F) xM (win0_0.stage (cfg0.slots Gen.t0_0 0)) oM avM bvM ovM cc0_scratch3 cc0_scratch4 cc0_scratch5
    cc0_scratch6 cc0_scratch7 = prog
  intro hrun
  unfold runs at hrun
  rw [show (dat m c).Φ Gen.t0_0.castSucc = _ from Φ_first m c, show (dat m c).Φ Gen.t0_0.succ = _ from Φ_last m c]
  exact point m c prog hrun

end Cert.KernelIdeal.Rms
-- ==== Proof.KI.Enter.lean ====
/- What the region is entered from and left with, and the two segments of the program. -/
module

public import proofs.«01_k».proof.Proof.KI.Segment

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke
open Idealize.ShloMosaic.Pipeline (Dat BodyObligation)
open Cert.KernelIdeal.Facts₀ Cert.KernelIdeal.Facts

variable {F : FTy → Type} [FloatOps F] [Facts]

local notation "𝕄" => MT nD τ sig Unit (Elt F) ℕ UU ℕ

variable (m : (ℓ : Loc nD τ sig) → Buf (Elt F) ℓ)

/-- From the launch to the region: the protocol unopened, the credits. -/
def kit (c : Dev nD) : sProp 𝕄 := iprop((∃ K, ghost (part m) K c) ∗ credits c)
/-- The protocol opened, and the counters of the slots. -/
def opened (c : Dev nD) : sProp 𝕄 := iprop(slotSems c ∗ ∃ K, ready (part m) K c)
def spent (c : Dev nD) : sProp 𝕄 := semVal (barCell c) 0

theorem hopen (c : Dev nD) : iprop(kit m c ∗ Pipeline.ownSems0 osem c ∗ levAts L lv) ⊢ (|={Set.univ}=> opened m c : sProp 𝕄) := by
  rw [ownSems_eq]
  unfold kit opened
  iintro ⟨⟨⟨%K, Hg⟩, Hc⟩, ⟨Hs, Hv, Hl⟩, Hlev⟩
  imod (opening (part m) K c) $$ [Hg Hc Hs Hv Hlev] with H
  · isplitl [Hg]; · iexact Hg
    isplitl [Hc]; · iexact Hc
    isplitl [Hs]; · iexact Hs
    isplitl [Hv]; · iexact Hv
    iexact Hlev
  imodintro
  isplitl [Hl]; · iexact Hl
  iexists K
  iexact H

theorem rest_scratch (c : Dev nD) : (Pipeline.scopedRest (Ix := Unit) (Name := ℕ) (U := UU) (Lvl := ℕ) (Val := Elt F)
    (Pipeline.pin (pcfgs (F := F)) adm 0).spec c : sProp 𝕄) = scratch c := Gen.scopedRest0_eq c

theorem hin (c : Dev nD) : iprop(Pipeline.scopedRest (Pipeline.pin (pcfgs (F := F)) adm 0).spec c ∗ (∃ r, prngReg c r)
    ∗ StableHlo.held (c.tc : Thread nD τ) own2 (V₁ m c) ∗ opened m c) ⊢ (pdats m 0 c).Φ 0 := by
  rw [show (pdats m 0 c).Φ 0 = _ from Φ_first m c, rest_scratch, own2_eq]
  unfold opened before
  iintro ⟨Hs, Hp, ⟨Hx, Ho⟩, Hl, HK⟩
  isplitl [Hp]; · iexact Hp
  isplitl [Hx]; · iexact Hx
  isplitl [Ho]; · iexists _; iexact Ho
  isplitl [Hs]; · iexact Hs
  isplitl [Hl]; · iexact Hl
  iexact HK

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) own2 (V₂ m c) ∗ Pipeline.ownSems0 osem c ∗ spent c) := by
  rw [show (pdats m 0 c).Φ (Fin.last _) = _ from Φ_last m c, rest_scratch, own2_eq, V₂_out, V₂_of_ne m c (by decide)]
  unfold after spent
  iintro ⟨Hp, Hx, Ho, Hs, Hl, Hb⟩
  isplitl [Hs]; · iexact Hs
  isplitl [Hp]; · iexact Hp
  isplitl [Hx Ho]
  · isplitl [Hx]; · iexact Hx
    iexact Ho
  isplitl [Hl]; · iexact Hl
  iexact Hb

theorem O₀_tc (c : Dev nD) (g : GSem nD τ sig) (u : Unit) (h : 0 < O₀ c g u) : u ∈ L g ∧ 0 < lv g u := by
  unfold O₀ at h
  rw [Pi.add_apply, Finsupp.add_apply] at h
  rcases Nat.add_pos_iff_pos_or_pos.mp h with h | h
  · obtain ⟨r, rfl⟩ := owed_pos c g u 32 0 h
    exact ⟨by rw [L_tc]; exact Finset.mem_singleton_self _, by dsimp only [lv]; rw [role_recv]; exact Nat.succ_pos 1⟩
  · rw [tallyAt_apply] at h
    split at h
    · next hg =>
      obtain ⟨rfl, -⟩ := hg
      exact ⟨by rw [L_tc]; exact Finset.mem_singleton_self _, by dsimp only [lv]; rw [role_bar]; exact Nat.one_pos⟩
    · exact absurd h (Nat.lt_irrefl 0)

theorem due_cut (c : Dev nD) (n : ℕ) (g : GSem nD τ sig) (u : Unit) (h : 0 < due c n g u) : u ∈ L g ∧ 0 < lv g u := by
  unfold due at h
  split at h
  · exact O₀_tc c g u h
  · exact absurd h (Nat.lt_irrefl 0)

theorem role_zero (s : DmaSem sig) (h : s.val = 0) : role (.dma s) = .other := by
  dsimp only [role]
  rw [dif_neg (by omega), dif_neg (by omega)]

theorem stage_sem : ∀ (w : Fin cfg0.W) (s : Fin (cfg0.win w).nbuf), ((cfg0.win w).sem s).val = 0
  | 0 => fun _ => rfl
  | ⟨_ + 1, h⟩ => absurd h (Nat.not_lt.2 (Nat.le_add_left _ _))

/-- The window's staging semaphore is none of the protocol's. -/
theorem stage_lv (c : Dev nD) (w : Fin cfg0.W) (s : Fin (cfg0.win w).nbuf) :
    lv ((c : Thread nD τ), .dma ((cfg0.win w).sem s)) () ≤ 0 := by
  dsimp only [lv]
  rw [role_zero _ (stage_sem w s)]

/-- What rides beside the buffers up to the region. -/
def rider (c : Dev nD) : sProp 𝕄 := iprop(kit m c ∗ (∃ r, prngReg c r) ∗ ∃ W, owes (c : Thread nD τ) (O₀ c) W)

theorem ops_sub : ∀ op ∈ (Gen.hostOps0 : List (HloOp τ sig (Elt F))), op.bufs ⊆ bufs := by
  intro op h
  rcases List.mem_cons.mp h with rfl | h
  · rw [StableHlo.reshape_bufs]; decide
  · obtain rfl := List.mem_singleton.mp h
    rw [StableHlo.reshape_bufs]; decide

def host : Pipeline.HostSeg (Name := ℕ) (U := UU) (pcfgs (F := F)) defs₀ 𝒱₀ L lv :=
  Pipeline.HostSeg.ofOps _ _ _ _ _ bufs Gen.hostOps0 ops_sub (List.forall_iff_forall_mem.mp Gen.hostOps0_fresh) (V₀ m) (rider m)

theorem pkit : Pipeline.PLaunchFacts (nD := nD) (τ := τ) (pcfgs (F := F)) 0 := Gen.launch0.toP

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem own_facts own2 rest own2_sub pkit rfl
    (fun c => (obligation m c).loose) (fun _ => 0) O₀ (fun c => (due_first c).trans (zero_add _).symm) (fun c => due_last c)
    (fun _ => rfl) (fun c w => by fin_cases w; rfl) (V₁ m) (V₂ m)
    (fun c b hb => V₂_of_ne m c (fun h => (Finset.mem_sdiff.mp hb).2 (by
      rw [h]; exact Finset.mem_insert_of_mem (Finset.mem_singleton_self _))))
    (kit m) spent (opened m) spent (hopen m) (hin m) (hout m) (fun c => by iintro H; imodintro; iexact H) (fun _ => 0)
    ⟨fun c w s => by rw [L_tc]; exact Finset.mem_singleton_self _, fun c w s => stage_lv c w s, fun c t g u h => due_cut c t.val g u h⟩
    (fun _ => iprop(emp))
    (fun c w => rfl)
    (fun c w => by
      fin_cases w
      exact ((pdats m 0 c).arrAt_in 0 rfl _).trans (V₂_of_ne m c (by decide)).symm)

end Cert.KernelIdeal.Rms
-- ==== Proof.KI.Launch.lean ====
/- The launch: every cell's invariant allocated, the scoped cells unopened, the tokens handed to the devices that pay. -/
module

public import proofs.«01_k».proof.Proof.KI.Enter

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke
open Idealize.ShloMosaic.Pipeline (Dat BodyObligation)
open Cert.KernelIdeal.Facts₀ Cert.KernelIdeal.Facts

variable {F : FTy → Type} [FloatOps F] [Facts]

local notation "𝕄" => MT nD τ sig Unit (Elt F) ℕ UU ℕ

variable (m : (ℓ : Loc nD τ sig) → Buf (Elt F) ℓ) (ρ : Dev nD → PrngReg)

/-! ## The cells and the tokens -/

abbrev Paid : Type := Unit ⊕ Fin 32 ⊕ Fin 32

/-- The semaphores of the protocol: the barrier, the send and the receive semaphores. -/
def paid : Paid → SemLoc sig :=
  Sum.elim (fun _ => .reg barS) (Sum.elim (fun r => .dma (sendS r)) fun r => .dma (recvS r))

def paidRole : Paid → Role := Sum.elim (fun _ => .bar) (Sum.elim .send .recv)

theorem role_paid : ∀ k, role (paid k) = paidRole k
  | .inl _ => role_bar
  | .inr (.inl r) => role_send r
  | .inr (.inr r) => role_recv r

theorem paidRole_inj : ∀ k k', paidRole k = paidRole k' → k = k'
  | .inl _, .inl _, _ => rfl
  | .inl _, .inr (.inl _), h => Role.noConfusion h
  | .inl _, .inr (.inr _), h => Role.noConfusion h
  | .inr (.inl _), .inl _, h => Role.noConfusion h
  | .inr (.inl _), .inr (.inl _), h => by cases h; rfl
  | .inr (.inl _), .inr (.inr _), h => Role.noConfusion h
  | .inr (.inr _), .inl _, h => Role.noConfusion h
  | .inr (.inr _), .inr (.inl _), h => Role.noConfusion h
  | .inr (.inr _), .inr (.inr _), h => by cases h; rfl

theorem paid_inj : Function.Injective paid := fun k k' h =>
  paidRole_inj k k' (by rw [← role_paid k, ← role_paid k', h])

def cellEmb : Dev nD × Paid ↪ GSem nD τ sig :=
  ⟨fun ck => ((ck.1 : Thread nD τ), paid ck.2), fun _ _ h =>
    Prod.ext (congrArg (fun g : GSem nD τ sig => g.1.1) h) (paid_inj (congrArg Prod.snd h))⟩

def barEmb : Dev nD ↪ GSem nD τ sig := ⟨fun c => barCell c, fun _ _ h => congrArg (fun g : GSem nD τ sig => g.1.1) h⟩
def lateEmb : Dev nD × (Fin 32 ⊕ Fin 32) ↪ GSem nD τ sig :=
  ⟨fun ck => cellEmb (ck.1, .inr ck.2), fun _ _ h => by
    have h' := cellEmb.injective h
    exact Prod.ext (congrArg (fun p => p.1) h') (Sum.inr.inj (congrArg (fun p => p.2) h'))⟩
def tokEmb : Dev nD × Paid ↪ GSem nD τ sig × ℕ × Unit :=
  ⟨fun ck => (cellEmb ck, 0, ()), fun _ _ h => cellEmb.injective (congrArg Prod.fst h)⟩

abbrev barCells : Finset (GSem nD τ sig) := Finset.univ.map barEmb
abbrev lateCells : Finset (GSem nD τ sig) := Finset.univ.map lateEmb
def payToks : Finset (GSem nD τ sig × ℕ × Unit) := Finset.univ.map tokEmb

theorem disjoint_cells : Disjoint (barCells : Finset (GSem nD τ sig)) lateCells := by
  rw [Finset.disjoint_left]
  rintro g h₁ h₂
  obtain ⟨c, -, rfl⟩ := Finset.mem_map.mp h₁
  obtain ⟨ck, -, h⟩ := Finset.mem_map.mp h₂
  have h' : (cellEmb (ck.1, Sum.inr ck.2)) = cellEmb (c, Sum.inl ()) := h
  exact Sum.inr_ne_inl (congrArg Prod.snd (cellEmb.injective h'))

theorem bar_mem (c : Dev nD) : barCell c ∈ (barCells ∪ lateCells : Finset (GSem nD τ sig)) :=
  Finset.mem_union_left _ (Finset.mem_map_of_mem barEmb (Finset.mem_univ c))
theorem send_mem (c : Dev nD) (r : Fin 32) : sendCell c r ∈ (barCells ∪ lateCells : Finset (GSem nD τ sig)) :=
  Finset.mem_union_right _ (Finset.mem_map_of_mem lateEmb (Finset.mem_univ (c, Sum.inl r)))
theorem recv_mem (c : Dev nD) (r : Fin 32) : recvCell c r ∈ (barCells ∪ lateCells : Finset (GSem nD τ sig)) :=
  Finset.mem_union_right _ (Finset.mem_map_of_mem lateEmb (Finset.mem_univ (c, Sum.inr r)))

/-- The launch element: the pipeline's, the protocol's, and no counter of a local copy yet. -/
def u₀ : UU :=
  (initOf (Pipeline.cells (Pipeline.pin (pcfgs (F := F)) adm) Gen.cellOf_inj) (Pipeline.launchToks (Pipeline.pin (pcfgs (F := F)) adm) Gen.cellOf_inj),
    launchOf barCells lateCells payToks, 1)

/-- All of `P` at device `c₀`. -/
def onDev (c₀ : Dev nD) (P : sProp 𝕄) (c : Dev nD) : sProp 𝕄 := if c = c₀ then P else iprop(emp)
theorem bigSep_onDev (c₀ : Dev nD) (P : sProp 𝕄) : bigSep Finset.univ (onDev c₀ P) = P := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp

def G : Dev nD → sProp 𝕄 := onDev 0 (BI.own (ER (launchOf barCells lateCells payToks)))

theorem fund_G : (ownU (u₀ (F := F)) : sProp 𝕄)
    ⊢ (|={Set.univ}=> iprop(BI.own (EP (initOf (Pipeline.cells (Pipeline.pin (pcfgs (F := F)) adm) Gen.cellOf_inj)
        (Pipeline.launchToks (Pipeline.pin (pcfgs (F := F)) adm) Gen.cellOf_inj))) ∗ bigSep Finset.univ G) : sProp 𝕄) := by
  unfold u₀ G
  iintro Hu
  ihave ⟨HP, HX⟩ := (ownU_pair _ _) $$ Hu
  ihave ⟨HR, -⟩ := (own_pair_emb _ _ _) $$ HX
  imodintro
  isplitl [HP]; · iexact HP
  rw [bigSep_onDev]
  iexact HR

/-! ## What each device gets -/

/-- The records every device may consult. -/
def records (κ : GSem nD τ sig → ℕ) : sProp 𝕄 :=
  iprop((bigSep (barCells ∪ lateCells) fun g => cellInv ER (Rd (part m)) (κ g) g) ∗ bigSep barCells fun g => reached ER g 0)

instance records_persistent (κ : GSem nD τ sig → ℕ) : BI.Persistent (records m κ) := by unfold records; infer_instance

theorem records_inv (κ : GSem nD τ sig → ℕ) {g : GSem nD τ sig} (hg : g ∈ (barCells ∪ lateCells : Finset (GSem nD τ sig))) :
    (records m κ : sProp 𝕄) ⊢ cellInv ER (Rd (part m)) (κ g) g := by
  unfold records
  iintro ⟨H, -⟩
  have h : (bigSep (barCells ∪ lateCells) fun g => (cellInv ER (Rd (part m)) (κ g) g : sProp 𝕄)) ⊢ cellInv ER (Rd (part m)) (κ g) g :=
    bigSep_elim hg
  iapply h
  iexact H

theorem records_reached (κ : GSem nD τ sig → ℕ) (c : Dev nD) : (records m κ : sProp 𝕄) ⊢ reached ER (barCell c) 0 := by
  unfold records
  iintro ⟨-, H⟩
  have h : (bigSep barCells fun g => (reached ER g 0 : sProp 𝕄)) ⊢ reached ER (barCell c) 0 :=
    bigSep_elim (Finset.mem_map_of_mem barEmb (Finset.mem_univ c))
  iapply h
  iexact H

theorem records_chunks (κ : GSem nD τ sig → ℕ) (c : Dev nD) :
    (records m κ : sProp 𝕄) ⊢ bigSep Finset.univ (fun r : Fin 32 => chunkInvs (part m) κ c r) := by
  have h : iprop(records m κ ∗ bigSep (Finset.univ : Finset (Fin 32)) (fun _ => (BI.emp : sProp 𝕄)))
      ⊢ bigSep Finset.univ (fun r : Fin 32 => chunkInvs (part m) κ c r) :=
    bigSep_with_persistent fun r _ => by
      unfold chunkInvs
      iintro ⟨#H, -⟩
      isplitr; · iapply (records_inv m κ (send_mem c r)); iexact H
      isplitr; · iapply (records_inv m κ (recv_mem c r)); iexact H
      iapply (records_inv m κ (recv_mem (mate c) r)); iexact H
  rw [BI.bigSep_emp_const] at h
  iintro H
  iapply h
  isplitl [H]; · iexact H
  iempintro

theorem records_invs (κ : GSem nD τ sig → ℕ) (c : Dev nD) : (records m κ : sProp 𝕄) ⊢ invs (part m) κ c := by
  unfold invs
  iintro #H
  isplitr
  · isplitr; · iapply (records_inv m κ (bar_mem c)); iexact H
    iapply (records_inv m κ (bar_mem (mate c))); iexact H
  iapply (records_chunks m κ c)
  iexact H

theorem ghost_intro (κ : GSem nD τ sig → ℕ) (c : Dev nD) : iprop(records m κ ∗ linear c) ⊢ iprop(∃ K, ghost (part m) K c) := by
  unfold ghost
  iintro ⟨#H, Hl⟩
  iexists κ
  isplitr; · iapply (records_invs m κ c); iexact H
  isplitr; · iapply (records_reached m κ (mate c)); iexact H
  iexact Hl

theorem toks_eq : bigSep payToks (fun x => (dutyTok ER x.1 x.2.1 x.2.2 : sProp 𝕄))
    = bigSep Finset.univ fun c : Dev nD => iprop(dutyTok ER (barCell c) 0 ()
      ∗ bigSep Finset.univ (fun r : Fin 32 => dutyTok ER (sendCell c r) 0 ())
      ∗ bigSep Finset.univ (fun r : Fin 32 => dutyTok ER (recvCell c r) 0 ())) := by
  unfold payToks
  rw [bigSep_map, bigSep_univ_prod]
  refine bigSep_congr fun c _ => ?_
  rw [bigSep_univ_sum, bigSep_univ_sum, Finset.univ_unique, bigSep_singleton]
  rfl

/-- The barrier's and the receive cells' tokens go to the partner. -/
theorem toks_around : bigSep payToks (fun x => (dutyTok ER x.1 x.2.1 x.2.2 : sProp 𝕄))
    ⊢ bigSep Finset.univ fun c : Dev nD => iprop(dutyTok ER (barCell (mate c)) 0 ()
      ∗ bigSep Finset.univ (fun r : Fin 32 => dutyTok ER (sendCell c r) 0 ())
      ∗ bigSep Finset.univ (fun r : Fin 32 => dutyTok ER (recvCell (mate c) r) 0 ())) := by
  rw [toks_eq]
  iintro H
  ihave ⟨Hb, H⟩ := bigSep_unpair $$ H
  ihave ⟨Hs, Hv⟩ := bigSep_unpair $$ H
  ihave Hb := (Entails.of_eq (bigSep_univ_equiv pairs (fun c : Dev nD => (dutyTok ER (barCell c) 0 () : sProp 𝕄)))) $$ Hb
  ihave Hv := (Entails.of_eq (bigSep_univ_equiv pairs (fun c : Dev nD =>
    (bigSep Finset.univ (fun r : Fin 32 => dutyTok ER (recvCell c r) 0 ()) : sProp 𝕄)))) $$ Hv
  iapply bigSep_pair
  isplitl [Hb]; · iexact Hb
  iapply bigSep_pair
  isplitl [Hs]; · iexact Hs
  iexact Hv

/-! ## The credits -/

theorem owed_at (d c : Dev nD) (r : Fin 32) : ∀ n p, p + n ≤ 32 →
    owed d n p (recvCell c r) () = if d = mate c ∧ p ≤ r.val ∧ r.val < p + n then N else 0
  | 0, p, _ => by rw [if_neg (fun h => by omega)]; rfl
  | n + 1, p, hp => by
    have hix : (ix p).val = p := Nat.mod_eq_of_lt (by omega)
    unfold owed
    rw [Pi.add_apply, Finsupp.add_apply, owed_at d c r n (p + 1) (by omega), tallyAt_apply]
    by_cases hd : d = mate c
    · subst hd
      rw [mate_mate]
      by_cases hr : r.val = p
      · obtain rfl : r = ix p := Fin.ext (hr.trans hix.symm)
        rw [if_neg (fun h => by omega), if_pos ⟨rfl, rfl⟩, if_pos ⟨rfl, by omega, by omega⟩, Nat.zero_add]
      · rw [if_neg (c := recvCell c r = recvCell c (ix p) ∧ () = ()) (fun h => hr (by rw [(recv_inj h.1).2, hix])), Nat.add_zero]
        by_cases h : p + 1 ≤ r.val ∧ r.val < p + 1 + n
        · rw [if_pos ⟨rfl, h⟩, if_pos ⟨rfl, by omega, by omega⟩]
        · rw [if_neg (fun h' => h h'.2), if_neg (fun h' => h ⟨by omega, by omega⟩)]
    · rw [if_neg (fun h => hd h.1), if_neg (fun h => hd (by rw [(recv_inj h.1).1, mate_mate])), if_neg (fun h => hd h.1)]

theorem bar_ne_recv (c d : Dev nD) (r : Fin 32) : barCell c ≠ recvCell d r := fun h => by
  have h' := congrArg (fun g : GSem nD τ sig => role g.2) h
  simp only [role_bar, role_recv] at h'
  exact Role.noConfusion h'

theorem owed_bar_zero (d c : Dev nD) : owed d 32 0 (barCell c) () = 0 := by
  by_contra h
  obtain ⟨r, h'⟩ := owed_pos d (barCell c) () 32 0 (Nat.pos_of_ne_zero h)
  exact bar_ne_recv _ _ _ h'

theorem O₀_recv (d c : Dev nD) (r : Fin 32) : O₀ d (recvCell c r) () = if d = mate c then N else 0 := by
  unfold O₀
  rw [Pi.add_apply, Finsupp.add_apply, owed_at d c r 32 0 (Nat.le_refl _), tallyAt_ne_cell (bar_ne_recv _ _ _).symm,
    Finsupp.zero_apply, Nat.add_zero]
  have hr := r.isLt
  by_cases h : d = mate c
  · rw [if_pos ⟨h, by omega, by omega⟩, if_pos h]
  · rw [if_neg (fun h' => h h'.1), if_neg h]

theorem O₀_bar (d c : Dev nD) : O₀ d (barCell c) () = if d = mate c then 1 else 0 := by
  unfold O₀
  rw [Pi.add_apply, Finsupp.add_apply, owed_bar_zero, tallyAt_apply, Nat.zero_add]
  by_cases h : d = mate c
  · rw [if_pos h, if_pos ⟨by rw [h, mate_mate], rfl⟩]
  · rw [if_neg h, if_neg]
    rintro ⟨h', -⟩
    have e : c = mate d := congrArg (fun g : GSem nD τ sig => g.1.1) h'
    exact h (by rw [e, mate_mate])

/-- A cell whose only debtor is the partner has the credit that the partner owes. -/
theorem credit_at (c : Dev nD) (sm : SemLoc sig) (n : ℕ)
    (h : ∀ d, O₀ d ((c : Thread nD τ), sm) () = if d = mate c then n else 0) :
    tallyOn ((c : Thread nD τ), sm) (launchCredit (Pipeline.owing O₀) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ (mate c) fun _ => n, if_pos (Finset.mem_univ _)]

def creditEmb : Unit ⊕ Fin 32 ↪ SemLoc sig :=
  ⟨fun k => paid (k.elim .inl fun r => .inr (.inr r)), fun k k' h => by
    have h' := paid_inj h
    rcases k with k | k <;> rcases k' with k' | k' <;> simp at h'
    · rfl
    · rw [h']⟩

theorem credits_intro (c : Dev nD) : (Pipeline.launchCred O₀ c : sProp 𝕄) ⊢ credits c := by
  unfold Pipeline.launchCred credits
  refine (bigSep_subset (Finset.subset_univ (Finset.univ.map creditEmb))).trans ?_
  rw [bigSep_map, bigSep_univ_sum, Finset.univ_unique, bigSep_singleton]
  refine BIClass.sep_mono (Entails.of_eq ?_) (Entails.of_eq (bigSep_congr fun r _ => ?_))
  · exact congrArg cred (credit_at c _ 1 fun d => O₀_bar d c)
  · exact congrArg cred (credit_at c _ N fun d => O₀_recv d c r)

end Cert.KernelIdeal.Rms
-- ==== Proof.KI.Run.lean ====
/- The run: from any memory with zero counters the program ends, its arguments unchanged, every device's output holding
   the normalised rows, every counter at zero. -/
module

public import proofs.«01_k».proof.Proof.KI.Launch

@[expose] public section

noncomputable section

namespace Cert.KernelIdeal.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke
open Idealize.ShloMosaic.Pipeline (Dat BodyObligation)
open Cert.KernelIdeal.Facts₀ Cert.KernelIdeal.Facts

variable {F : FTy → Type} [FloatOps F] [Facts]

local notation "𝕄" => MT nD τ sig Unit (Elt F) ℕ UU ℕ

variable (m : (ℓ : Loc nD τ sig) → Buf (Elt F) ℓ) (ρ : Dev nD → PrngReg)

theorem bufs_eq (c : Dev nD) (W : Valuation τ sig (Elt F)) : (StableHlo.held (c : Thread nD τ) bufs W : sProp 𝕄)
    = iprop(((c : Thread nD τ).loc main_arg0 ↦{fullShare} W (Proc.devRef .tc main_arg0))
      ∗ ((c : Thread nD τ).loc main_arg1 ↦{fullShare} W (Proc.devRef .tc main_arg1))
      ∗ ((c : Thread nD τ).loc main_v1 ↦{fullShare} W (Proc.devRef .tc main_v1))
      ∗ ((c : Thread nD τ).loc main_v2 ↦{fullShare} W (Proc.devRef .tc main_v2))
      ∗ ((c : Thread nD τ).loc main_v3 ↦{fullShare} W (Proc.devRef .tc main_v3))) := by
  unfold StableHlo.held
  rw [bigSep_eq_bigSepL_of_eq [Proc.devRef .tc main_arg0, Proc.devRef .tc main_arg1, Proc.devRef .tc main_v1,
    Proc.devRef .tc main_v2, Proc.devRef .tc main_v3] (by decide +kernel) (by decide)]
  rfl

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel,
    BI.bigSep_singleton]

theorem unscoped_only : ∀ sm : SemLoc sig, sm.isScoped .tc = false → sm = .reg barS := by decide +kernel

abbrev launched (c : Dev nD) : sProp 𝕄 := iprop(StableHlo.held (c : Thread nD τ) bufs (V₀ m c) ∗ rider m c)
abbrev final (c : Dev nD) : sProp 𝕄 := iprop(StableHlo.held (c : Thread nD τ) bufs (V₂ m c) ∗ semVal (barCell c) 0)

/-- What a device has at launch beside the protocol. -/
def bundle (c : Dev nD) : sProp 𝕄 :=
  iprop(StableHlo.held (c : Thread nD τ) bufs (V₀ m c) ∗ credits c ∗ owes (c : Thread nD τ) (O₀ c) ∅ ∗ ∃ r, prngReg c r)

theorem launched_intro (κ : GSem nD τ sig → ℕ) (c : Dev nD) : iprop(records m κ ∗ (linear c ∗ bundle m c)) ⊢ launched m c := by
  unfold bundle launched rider kit
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅
  iexact HO

theorem core_bundle (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (V₀ m c) from
    unscopedBufs_held c (V₀ m c), unscopedSems_eq]
  unfold bundle
  iintro ⟨Hh, Hs, HO, Hcr, Hp, HG⟩
  ihave Hc := (credits_intro (F := F) c) $$ Hcr
  isplitl [Hh Hc HO Hp]
  · isplitl [Hh]; · iexact Hh
    isplitl [Hc]; · iexact Hc
    isplitl [HO]; · iexact HO
    iexists (ρ c)
    iexact Hp
  isplitl [Hs]; · iexact Hs
  iexact HG

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (launched m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep lateCells (fun g => (openTok ER g : sProp 𝕄))
      ⊢ bigSep Finset.univ (fun c : Dev nD => iprop(bigSep Finset.univ (fun r : Fin 32 => openTok ER (sendCell c r))
        ∗ bigSep Finset.univ (fun r : Fin 32 => openTok ER (recvCell c r)))) :=
    Entails.of_eq (by
      rw [bigSep_map, bigSep_univ_prod]
      refine bigSep_congr fun c _ => ?_
      rw [bigSep_univ_sum]
      rfl)
  have hG : bigSep Finset.univ (G (F := F)) ⊢ BI.own (ER (launchOf barCells lateCells payToks)) :=
    Entails.of_eq (bigSep_onDev (F := F) 0 (BI.own (ER (launchOf barCells lateCells payToks))))
  have hcores : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) :=
    bigSep_mono fun c _ => core_bundle m ρ c
  iintro ⟨H, -⟩
  ihave H := hcores $$ H
  ihave ⟨HB, H⟩ := bigSep_unpair $$ H
  ihave ⟨Hv, HG⟩ := bigSep_unpair $$ H
  ihave Hu := hG $$ HG
  imod (Rounds.fund_launch ER (Rd (part m)) disjoint_cells (fun g _ h => h) payToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => launched_intro m κ c)
  isplitr
  · unfold records
    isplitr; · iexact Hinv
    iexact Hr
  iapply bigSep_pair
  isplitr [HB]
  · unfold linear
    iapply bigSep_pair; isplitl [Hat]; · iapply hat $$ Hat
    iapply bigSep_pair; isplitl [Hopen]; · iapply hop $$ Hopen
    iapply (toks_around (F := F))
    iexact Htok
  · iexact HB

theorem host_region (c : Dev nD) : iprop(StableHlo.held (c : Thread nD τ) bufs (V₁ m c) ∗ rider m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ kit m c ∗ ∃ Wd, owes (c : Thread nD τ) (0 + O₀ c) Wd)
  rw [bufs_split, zero_add]
  unfold rider
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

theorem region_final (c : Dev nD) : (region m).post c
    ⊢ iprop(final m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) rest (V₂ m c) ∗ emp) ∗ spent c ∗ ∃ Wd, owes (c : Thread nD τ) (0 : CellTallies nD τ sig Unit) Wd) ⊢ _
  dsimp only [final]
  rw [bufs_split]
  unfold spent
  iintro ⟨Ha, -, ⟨Hr, -⟩, Hb, HO⟩
  isplitr [HO]
  · isplitl [Ha Hr]
    · isplitl [Ha]; · iexact Ha
      iexact Hr
    iexact Hb
  iexact HO

def segs : List (Pipeline.Seg (pcfgs (F := F)) adm (pdats m) () defs₀ 𝒱₀ L lv) := [.host (host m), .region (region m)]

theorem V₂_arg0 (c : Dev nD) : V₂ m c (Proc.devRef .tc main_arg0) = m ((c : Thread nD τ).loc main_arg0) :=
  (V₂_of_ne m c (by decide)).trans (Gen.V_main_arg0 m c)
theorem V₂_arg1 (c : Dev nD) : V₂ m c (Proc.devRef .tc main_arg1) = m ((c : Thread nD τ).loc main_arg1) :=
  (V₂_of_ne m c (by decide)).trans (Gen.V_main_arg1 m c)

/-- A device's final memory. -/
def settled (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v3) = output (part m) c (weight m c))
  ∧ s.sem (barCell c) = 0

theorem read_final (c : Dev nD) (s' : Phys nD τ sig (Elt F)) :
    iprop(final m c ∗ SI s') ⊢ (|={Set.univ}=> iprop(⌜settled m c s'.mem⌝ ∗ SI s') : sProp 𝕄) := by
  dsimp only [final]
  rw [bufs_eq, V₂_arg0, V₂_arg1, V₂_out]
  iintro ⟨⟨⟨H0, H1, -, -, H3⟩, Hb⟩, HSI⟩
  icombine HSI H0 gives %h0
  icombine HSI H1 gives %h1
  icombine HSI H3 gives %h3
  icombine HSI Hb gives %hb
  imodintro
  isplitr
  · ipureintro
    exact ⟨⟨Buf.eq_of_forall_mem_univ h0, Buf.eq_of_forall_mem_univ h1, Buf.eq_of_forall_mem_univ h3⟩, by simpa using hb⟩
  iexact HSI

set_option backward.isDefEq.respectTransparency.types false in
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = output (part m) c (weight m c)) ∧ r.2.sem = fun _ => 0) :=
  Pipeline.θ_run_regions_kit_sems (pcfgs (F := F)) adm (pdats m) () Gen.cellOf_inj EP defs₀ 𝒱₀ L lv m ρ main (segs m)
    (fun c Q => by rw [Gen.main_segs adm (pdats m) () 𝒱₀ L lv (host m) (region m) rfl c]; exact BI.Entails.refl _)
    (by simp only [segs, Pipeline.Seg.pipes_host, Pipeline.Seg.pipes_region, Pipeline.Seg.pipes_nil]; decide)
    (O₀ := O₀) (hL := L_of_ne) (G := G) (u₀ := u₀) (hu₀ := fund_G)
    (T₀ := launched m) (Tₙ := final m)
    (hch := ⟨fun c => .rfl, fun c => host_region m c, fun c => region_final m c⟩)
    (hinit := init m ρ)
    (QY := settled m)
    (hfin := read_final m)
    (hQ := fun s h hs => ⟨fun c => (h c).1, sem_eq_zero hs fun c sm hsm => by
      obtain rfl := unscoped_only sm hsm
      exact (h c).2⟩)

end Cert.KernelIdeal.Rms
-- ==== Proof.Value.Row.lean ====
/- One row of the result: the kernel's chunk arithmetic and the reference's formula, each read at an index, are the same
   expression of the row's entries. -/
module

public import proofs.«01_k».proof.Proof.KI.Cells
public import proofs.«01_k».proof.Proof.Gen.ReferenceIdeal.Run
public import Idealize.ShloMosaic.Lib.Pointwise

@[expose] public section

noncomputable section

namespace Cert.Value

open Idealize.ShloMosaic

/-- Entry `j` of the row `y` divided by the root of its mean square, scaled by `g`. -/
def entry (y : Fin 4096 → EReal) (g : EReal) (j : Fin 4096) : EReal :=
  Ideal.div (y j) (Ideal.sqrt (Ideal.div (∑ k : Fin 4096, y k * y k) (Ideal.ofBits .f32 0x45800000#32)
    + Ideal.ofBits .f32 0x358637BD#32)) * g

section Kernel
open Cert.KernelIdeal

variable [Cert.KernelIdeal.Facts]

/-- The kernel's normalised chunk at an index. -/
theorem norm_apply (a b : Rms.Mat Ideal) (w : Vec Ideal S1x4096 .f32) (i : Fin 128) (j : Fin 4096) :
    Rms.norm a b w (ix2 i j) = entry (fun k => a (ix2 i k) + b (ix2 i k)) (w (ix2 0 j)) j := by
  pointwise [Rms.norm, Gen.k0_pay1, entry]

end Kernel

section Reference
open Cert.ReferenceIdeal Cert.ReferenceIdeal.Gen

/-- The partial sums added up, as the reference adds them. -/
def total (P : FVec Ideal S2x8192x4096 .f32) : FVec Ideal S8192x4096 .f32 :=
  Host.reduceAdd P (constant S_ .f32 0x00000000#32) reducesTo_S2x8192x4096_S8192x4096_d0 h_S_

/-- The root of the mean square of each row of `y`, as a column. -/
def rootMean (y : FVec Ideal S8192x4096 .f32) : FVec Ideal S8192x1 .f32 :=
  Host.sqrt (addf
    (Host.divf
      (broadcastInDim S8192x1 ![0] bcast_S8192_S8192x1_0
        (Host.reduceAdd (mulf y y) (constant S_ .f32 0x00000000#32) reducesTo_S8192x4096_S8192_d1 h_S_))
      (broadcastInDim S8192x1 ![] bcast_S_S8192x1 (constant S_ .f32 0x45800000#32)))
    (broadcastInDim S8192x1 ![] bcast_S_S8192x1 (constant S_ .f32 0x358637BD#32)))

/-- The reference's result, of the partial sums `P` and the scale `g`. -/
def formula (P : FVec Ideal S2x8192x4096 .f32) (g : FVec Ideal S4096 .f32) : FVec Ideal S8192x4096 .f32 :=
  mulf (Host.divf (total P) (broadcastInDim S8192x4096 ![0, 1] bcast_S8192x1_S8192x4096_0_1 (rootMean (total P))))
    (broadcastInDim S8192x4096 ![0, 1] bcast_S1x4096_S8192x4096_0_1 (broadcastInDim S1x4096 ![1] bcast_S4096_S1x4096_1 g))

/-- The reference's result at an index. -/
theorem formula_apply (P : FVec Ideal S2x8192x4096 .f32) (g : FVec Ideal S4096 .f32) (i : Fin 8192) (j : Fin 4096) :
    formula P g (ix2 i j) = entry (fun k => P (ix3 0 i k) + P (ix3 1 i k)) (g (ix1 j)) j := by
  pointwise [formula, total, rootMean, entry, Fin.sum_univ_two, zero_add]

end Reference

end Cert.Value
-- ==== Proof.Value.Inputs.lean ====
/- What the kernel reads: each device's partial sums and the scale vector, as the arguments hold them. -/
module

public import proofs.«01_k».proof.Proof.KI.Run
public import Idealize.ShloMosaic.Lib.StableHlo.Run
public import Idealize.ShloMosaic.Lib.Pointwise

@[expose] public section

noncomputable section

namespace Cert.Value

open Idealize.ShloMosaic Idealize.ShloMosaic.TcCoe
open Cert.KernelIdeal Cert.KernelIdeal.Facts₀ Cert.KernelIdeal.Facts

variable [Cert.KernelIdeal.Facts] (m : (ℓ : Loc nD τ sig) → Buf (Elt Ideal) ℓ) (c : Dev nD)

theorem part_eq : Rms.part m c = shapeCast S8192x4096 (m ((c : Thread nD τ).loc main_arg0)) shapeCasts_S1x8192x4096_S8192x4096 := by
  unfold Rms.part Rms.V₁
  after_results
  rfl

theorem cast_eq : Rms.V₁ m c (Proc.devRef .tc main_v2)
    = shapeCast S1x4096 (m ((c : Thread nD τ).loc main_arg1)) shapeCasts_S4096_S1x4096 := by
  unfold Rms.V₁
  after_results
  rfl

/-- The kernel's matrix of partial sums is the device's slice of the first argument. -/
theorem part_apply (i : Fin 8192) (j : Fin 4096) :
    Rms.part m c (ix2 i j) = m ((c : Thread nD τ).loc main_arg0) (ix3 0 i j) := by
  rw [part_eq]
  refine shapeCast_apply _ _ _ (ix3 0 i j) ?_
  rw [Shape.rowMajor_val_three, Shape.rowMajor_val_two]
  show (0 * 8192 + i.val) * 4096 + j.val = i.val * 4096 + j.val
  omega

/-- The staged scale is the second argument, as one row. -/
theorem weight_apply (j : Fin 4096) : Rms.weight m c (ix2 0 j) = m ((c : Thread nD τ).loc main_arg1) (ix1 j) := by
  have h : Rms.weight m c (ix2 0 j) = Rms.V₁ m c (Proc.devRef .tc main_v2) (ix2 0 j) := by
    show Rms.V₁ m c (Proc.devRef .tc main_v2) _ = _
    congr 1
    funext a
    apply Fin.ext
    match a with
    | ⟨0, _⟩ => rfl
    | ⟨1, _⟩ => show 0 * 4096 + 1 * j.val = j.val; omega
  rw [h, cast_eq]
  refine shapeCast_apply _ _ _ (ix1 j) ?_
  rw [Shape.rowMajor_val_one, Shape.rowMajor_val_two]
  show j.val = 0 * 4096 + j.val
  omega

theorem read_kept (X : Dev nD → (main_v1 : Ref sig .tc).ty.Contents (Elt Ideal)) (r : Fin 32) (i : Fin 128) (j : Fin 4096) (k : Fin 8192)
    (h : k.val = 4096 * (c.val / 8) + 128 * r.val + i.val) : Rms.kept X c r (ix2 i j) = X c (ix2 k j) := by
  unfold Rms.kept
  rw [View.read_apply]
  show X c _ = X c _
  congr 1
  funext a
  apply Fin.ext
  match a with
  | ⟨0, _⟩ =>
    show (k0_off2 c (BitVec.ofNat 32 (128 * r.val))) 0 + 1 * i.val = k.val
    rw [Gen.k0_off2_eq, h]
    show 4096 * (c.val / 8) + 128 * r.val + 1 * i.val = _
    omega
  | ⟨1, _⟩ =>
    show (k0_off2 c (BitVec.ofNat 32 (128 * r.val))) 1 + 1 * j.val = j.val
    rw [Gen.k0_off2_eq]
    show 0 + 1 * j.val = j.val
    omega

theorem read_sent (X : Dev nD → (main_v1 : Ref sig .tc).ty.Contents (Elt Ideal)) (r : Fin 32) (i : Fin 128) (j : Fin 4096) (k : Fin 8192)
    (h : k.val = (128 * r.val + 4096) - 4096 * (c.val / 8) + i.val) : Rms.sent X c r (ix2 i j) = X c (ix2 k j) := by
  unfold Rms.sent
  rw [View.read_apply]
  show X c _ = X c _
  congr 1
  funext a
  apply Fin.ext
  match a with
  | ⟨0, _⟩ =>
    show (k0_off1 c (BitVec.ofNat 32 (128 * r.val))) 0 + 1 * i.val = k.val
    rw [Gen.k0_off1_eq, h]
    show (128 * r.val + 4096) - 4096 * (c.val / 8) + 1 * i.val = _
    omega
  | ⟨1, _⟩ =>
    show (k0_off1 c (BitVec.ofNat 32 (128 * r.val))) 1 + 1 * j.val = j.val
    rw [Gen.k0_off1_eq]
    show 0 + 1 * j.val = j.val
    omega

end Cert.Value
-- ==== Proof.Value.Equal.lean ====
/- The kernel's output on a device is that device's rows of the reference's result. -/
module

public import proofs.«01_k».proof.Proof.Value.Row
public import proofs.«01_k».proof.Proof.Value.Inputs
public import Idealize.ShloMosaic.Lib.Layout

@[expose] public section

noncomputable section

namespace Cert.Value

open Idealize.ShloMosaic Idealize.ShloMosaic.TcCoe
open Cert.KernelIdeal

variable [Cert.KernelIdeal.Facts] (m : (ℓ : Loc nD τ sig) → Buf (Elt Ideal) ℓ)

/-- Which half of the mesh device `c` is in: its first coordinate. -/
def half (c : Dev nD) : Fin 2 := ⟨c.val / 8, by have h : c.val < 16 := c.isLt; omega⟩

/-- The two slices in either order have one sum. -/
theorem sum_halves (f : Fin 2 → EReal) (c : Dev nD) : f (half c) + f (half (Rms.mate c)) = f 0 + f 1 := by
  have h : c.val < 16 := c.isLt
  have hm := Rms.mate_val c
  rcases (by omega : c.val / 8 = 0 ∨ c.val / 8 = 1) with e | e
  · rw [show half c = 0 from Fin.ext e, show half (Rms.mate c) = 1 from Fin.ext (by show (Rms.mate c).val / 8 = 1; omega)]
  · rw [show half c = 1 from Fin.ext e, show half (Rms.mate c) = 0 from Fin.ext (by show (Rms.mate c).val / 8 = 0; omega),
      add_comm]

/-- Device `c`'s slice of the partial sums is slice `half c`. -/
theorem slice_apply (P : FVec Ideal ⟨3, ![2, 8192, 4096]⟩ .f32) (c : Dev nD) (i : Fin 8192) (j : Fin 4096) :
    (Layout.blockN ⟨3, ![1, 8192, 4096]⟩ ⟨3, ![2, 8192, 4096]⟩ (Layout.meshBlock [2, 2, 4] ![[0], [], []] c) P) (ix3 0 i j)
      = P (ix3 (half c) i j) := by
  rw [Layout.blockN_apply]
  congr 1
  have hc : c.val < 16 := c.isLt
  funext a
  apply Fin.ext
  match a with
  | ⟨0, _⟩ => show ((c.val / 8) % 2 * 1 + 0) * 1 + 0 = c.val / 8; omega
  | ⟨1, _⟩ => show 0 * 8192 + i.val = i.val; omega
  | ⟨2, _⟩ => show 0 * 4096 + j.val = j.val; omega

/-- Device `c`'s rows of a result are those of half `half c`. -/
theorem rows_apply (v : FVec Ideal ⟨2, ![8192, 4096]⟩ .f32) (c : Dev nD) (i : S4096x4096.Idx) (k : Fin 8192)
    (h : k.val = 4096 * (c.val / 8) + (i 0).val) :
    (Layout.blockN ⟨2, ![4096, 4096]⟩ ⟨2, ![8192, 4096]⟩ (Layout.meshBlock [2, 2, 4] ![[0], []] c) v) i
      = v (ix2 k ⟨(i 1).val, (i 1).isLt⟩) := by
  rw [Layout.blockN_apply]
  congr 1
  have hc : c.val < 16 := c.isLt
  funext a
  apply Fin.ext
  match a with
  | ⟨0, _⟩ => show ((c.val / 8) % 2 * 1 + 0) * 4096 + (i 0).val = k.val; omega
  | ⟨1, _⟩ => show 0 * 4096 + (i 1).val = (i 1).val; omega

/-- Where every device holds its slice of `P` and the scale `g`, device `c` ends with its rows of the reference's
    result. -/
theorem output_eq (P : FVec Ideal ⟨3, ![2, 8192, 4096]⟩ .f32) (g : FVec Ideal ⟨1, ![4096]⟩ .f32)
    (hP : ∀ c : Dev nD, m ((c : Thread nD τ).loc main_arg0)
      = Layout.blockN ⟨3, ![1, 8192, 4096]⟩ ⟨3, ![2, 8192, 4096]⟩ (Layout.meshBlock [2, 2, 4] ![[0], [], []] c) P)
    (hg : ∀ c : Dev nD, m ((c : Thread nD τ).loc main_arg1) = g) (c : Dev nD) :
    Rms.output (Rms.part m) c (Rms.weight m c)
      = Layout.blockN ⟨2, ![4096, 4096]⟩ ⟨2, ![8192, 4096]⟩ (Layout.meshBlock [2, 2, 4] ![[0], []] c) (formula P g) := by
  have hpart : ∀ (d : Dev nD) (i : Fin 8192) (j : Fin 4096), Rms.part m d (ix2 i j) = P (ix3 (half d) i j) := fun d i j => by
    rw [part_apply, hP d]; exact slice_apply P d i j
  have hc : c.val < 16 := c.isLt
  have hm := Rms.mate_val c
  funext i
  have h0 : (i 0).val < 4096 := (i 0).isLt
  let r : Fin 32 := ⟨(i 0).val / 128, by omega⟩
  let p : Fin 128 := ⟨(i 0).val % 128, by omega⟩
  let q : Fin 4096 := ⟨(i 1).val, (i 1).isLt⟩
  let k : Fin 8192 := ⟨4096 * (c.val / 8) + (i 0).val, by omega⟩
  have e : Rms.output (Rms.part m) c (Rms.weight m c) i
      = Rms.norm (Rms.kept (Rms.part m) c r) (Rms.sent (Rms.part m) (Rms.mate c) r) (Rms.weight m c) (ix2 p q) := by
    unfold Rms.output Rms.whole
    congr 1
    funext a
    apply Fin.ext
    match a with
    | ⟨0, _⟩ => rfl
    | ⟨1, _⟩ => rfl
  rw [e, norm_apply, rows_apply _ c i k rfl, formula_apply, weight_apply, hg c]
  congr 1
  funext x
  rw [read_kept c (Rms.part m) r p x k (by show 4096 * (c.val / 8) + (i 0).val = 4096 * (c.val / 8) + 128 * ((i 0).val / 128) + (i 0).val % 128; omega),
    read_sent (Rms.mate c) (Rms.part m) r p x k (by
      show 4096 * (c.val / 8) + (i 0).val = (128 * ((i 0).val / 128) + 4096) - 4096 * ((Rms.mate c).val / 8) + (i 0).val % 128
      omega), hpart, hpart]
  exact sum_halves (fun s => P (ix3 s k x)) c

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Value.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

instance : Cert.Kernel.Facts := Cert.Kernel.Gen.facts
instance : Cert.KernelIdeal.Facts := Cert.KernelIdeal.Gen.facts
instance : Cert.ReferenceIdeal.Facts := Cert.ReferenceIdeal.Gen.facts

theorem frame_kernel : Cert.quiescent_Kernel := fun m g _ =>
  (θ_run _ _ _).mono (fun _ h => ⟨fun c => ⟨(h.1 c).1, (h.1 c).2.1⟩, h.2⟩) (Cert.Kernel.Rms.run_main m g)

theorem frame_ideal : Cert.quiescent_KernelIdeal := fun m g _ =>
  (θ_run _ _ _).mono (fun _ h => ⟨fun c => ⟨(h.1 c).1, (h.1 c).2.1⟩, h.2⟩) (Cert.KernelIdeal.Rms.run_main m g)

theorem frame_reference : Cert.quiescent_ReferenceIdeal := fun m g _ =>
  (θ_run _ _ _).mono (fun _ h => ⟨fun c => (h c).2, sem_eq_zero_of_no_sems rfl _⟩) (Cert.ReferenceIdeal.Value.run m g)

/-- Every device's result is its rows of the reference's result. -/
theorem values : Cert.algebraic_KernelIdeal_ReferenceIdeal := fun m g m' g' _ hm =>
  ⟨Cert.Value.formula (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c =>
      ⟨(h.1 c).2.2.trans (Cert.Value.output_eq m _ _ (fun d => (hm d).1) (fun d => (hm d).2) c), (h.1 c).1, (h.1 c).2.1⟩)
      (Cert.KernelIdeal.Rms.run_main m g),
    (θ_run _ _ _).mono (fun _ h => ⟨(h 0).1, (h 0).2.1, (h 0).2.2⟩) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, values⟩

end Cert.Proof
